-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1024 : Shape := ⟨2, ![128, 1024]⟩
abbrev S1024x128 : Shape := ⟨2, ![1024, 128]⟩
abbrev S7x128x1024 : Shape := ⟨3, ![7, 128, 1024]⟩
abbrev S8x128x128 : Shape := ⟨3, ![8, 128, 128]⟩
abbrev S14 : Shape := ⟨1, ![14]⟩
abbrev S2 : Shape := ⟨1, ![2]⟩
abbrev S8 : Shape := ⟨1, ![8]⟩
abbrev S1 : Shape := ⟨1, ![1]⟩
abbrev S_ : Shape := ⟨0, ![]⟩
abbrev S1x64x1024 : Shape := ⟨3, ![1, 64, 1024]⟩
abbrev S64x1024 : Shape := ⟨2, ![64, 1024]⟩
abbrev S128x128 : Shape := ⟨2, ![128, 128]⟩
abbrev S1x128x128 : Shape := ⟨3, ![1, 128, 128]⟩
abbrev S1x128x1024 : Shape := ⟨3, ![1, 128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S1024x128, .f32⟩
  | .hbm, ⟨2, _⟩ => ⟨S1024x128, .bf16⟩
  | .local _ .vmem, ⟨0, _⟩ => ⟨S128x1024, .f32⟩
  | .local _ .vmem, ⟨1, _⟩ => ⟨S1024x128, .f32⟩
  | .local _ .vmem, ⟨2, _⟩ => ⟨S128x1024, .bf16⟩
  | .local _ .vmem, ⟨3, _⟩ => ⟨S7x128x1024, .bf16⟩
  | .local _ .vmem, ⟨4, _⟩ => ⟨S8x128x128, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_49 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_20 v19
  let c2_i32_21 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_21 v46
  let v54 : BitVec 32 := Scalar.addi v52 v53
  let c1_i32_19 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v51 : BitVec 32 := Scalar.subi c1_i32_19 v50
  let v55 : BitVec 32 := Scalar.xori v51 v46
  let v56 : BitVec 32 := Scalar.addi v54 v55
  let c1_i32_48 : BitVec 32 := 1#32
  let v103 : BitVec 32 := Scalar.muli v56 c1_i32_48
  let v104 : BitVec 32 := Scalar.addi c0_i32_49 v103
  v104.toNat
def k0_dev2 (d0 : Dev nD) : Nat :=
  let c0_i32_52 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.muli c4_i32_23 v19
  let c2_i32_24 : BitVec 32 := 2#32
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.subi c1_i32_22 v46
  let v59 : BitVec 32 := Scalar.muli c2_i32_24 v57
  let v60 : BitVec 32 := Scalar.addi v58 v59
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v61 : BitVec 32 := Scalar.xori v50 v57
  let v62 : BitVec 32 := Scalar.addi v60 v61
  let c1_i32_51 : BitVec 32 := 1#32
  let v105 : BitVec 32 := Scalar.muli v62 c1_i32_51
  let v106 : BitVec 32 := Scalar.addi c0_i32_52 v105
  v106.toNat
def k0_dev3 (d0 : Dev nD) : Nat :=
  let c0_i32_55 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v63 : BitVec 32 := Scalar.subi c1_i32_25 v19
  let v64 : BitVec 32 := Scalar.muli c4_i32_26 v63
  let c2_i32_27 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v65 : BitVec 32 := Scalar.muli c2_i32_27 v46
  let v66 : BitVec 32 := Scalar.addi v64 v65
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v67 : BitVec 32 := Scalar.xori v50 v46
  let v68 : BitVec 32 := Scalar.addi v66 v67
  let c1_i32_54 : BitVec 32 := 1#32
  let v107 : BitVec 32 := Scalar.muli v68 c1_i32_54
  let v108 : BitVec 32 := Scalar.addi c0_i32_55 v107
  v108.toNat
def k0_dev4 (d0 : Dev nD) : Nat :=
  let c0_i32_67 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_20 v19
  let c2_i32_21 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_21 v46
  let v54 : BitVec 32 := Scalar.addi v52 v53
  let c1_i32_19 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v51 : BitVec 32 := Scalar.subi c1_i32_19 v50
  let v55 : BitVec 32 := Scalar.xori v51 v46
  let v56 : BitVec 32 := Scalar.addi v54 v55
  let c1_i32_66 : BitVec 32 := 1#32
  let v120 : BitVec 32 := Scalar.muli v56 c1_i32_66
  let v121 : BitVec 32 := Scalar.addi c0_i32_67 v120
  v121.toNat
def k0_dev5 (d0 : Dev nD) : Nat :=
  let c0_i32_76 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.muli c4_i32_23 v19
  let c2_i32_24 : BitVec 32 := 2#32
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.subi c1_i32_22 v46
  let v59 : BitVec 32 := Scalar.muli c2_i32_24 v57
  let v60 : BitVec 32 := Scalar.addi v58 v59
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v61 : BitVec 32 := Scalar.xori v50 v57
  let v62 : BitVec 32 := Scalar.addi v60 v61
  let c1_i32_75 : BitVec 32 := 1#32
  let v129 : BitVec 32 := Scalar.muli v62 c1_i32_75
  let v130 : BitVec 32 := Scalar.addi c0_i32_76 v129
  v130.toNat
def k0_dev6 (d0 : Dev nD) : Nat :=
  let c0_i32_84 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v63 : BitVec 32 := Scalar.subi c1_i32_25 v19
  let v64 : BitVec 32 := Scalar.muli c4_i32_26 v63
  let c2_i32_27 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v65 : BitVec 32 := Scalar.muli c2_i32_27 v46
  let v66 : BitVec 32 := Scalar.addi v64 v65
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v67 : BitVec 32 := Scalar.xori v50 v46
  let v68 : BitVec 32 := Scalar.addi v66 v67
  let c1_i32_83 : BitVec 32 := 1#32
  let v138 : BitVec 32 := Scalar.muli v68 c1_i32_83
  let v139 : BitVec 32 := Scalar.addi c0_i32_84 v138
  v139.toNat
def k0_dev7 (d0 : Dev nD) : Nat :=
  let c0_i32_93 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_20 v19
  let c2_i32_21 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_21 v46
  let v54 : BitVec 32 := Scalar.addi v52 v53
  let c1_i32_19 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v51 : BitVec 32 := Scalar.subi c1_i32_19 v50
  let v55 : BitVec 32 := Scalar.xori v51 v46
  let v56 : BitVec 32 := Scalar.addi v54 v55
  let c1_i32_92 : BitVec 32 := 1#32
  let v147 : BitVec 32 := Scalar.muli v56 c1_i32_92
  let v148 : BitVec 32 := Scalar.addi c0_i32_93 v147
  v148.toNat
def k0_dev8 (d0 : Dev nD) : Nat :=
  let c0_i32_102 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.muli c4_i32_23 v19
  let c2_i32_24 : BitVec 32 := 2#32
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.subi c1_i32_22 v46
  let v59 : BitVec 32 := Scalar.muli c2_i32_24 v57
  let v60 : BitVec 32 := Scalar.addi v58 v59
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v61 : BitVec 32 := Scalar.xori v50 v57
  let v62 : BitVec 32 := Scalar.addi v60 v61
  let c1_i32_101 : BitVec 32 := 1#32
  let v156 : BitVec 32 := Scalar.muli v62 c1_i32_101
  let v157 : BitVec 32 := Scalar.addi c0_i32_102 v156
  v157.toNat
def k0_dev9 (d0 : Dev nD) : Nat :=
  let c0_i32_110 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v63 : BitVec 32 := Scalar.subi c1_i32_25 v19
  let v64 : BitVec 32 := Scalar.muli c4_i32_26 v63
  let c2_i32_27 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v65 : BitVec 32 := Scalar.muli c2_i32_27 v46
  let v66 : BitVec 32 := Scalar.addi v64 v65
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v67 : BitVec 32 := Scalar.xori v50 v46
  let v68 : BitVec 32 := Scalar.addi v66 v67
  let c1_i32_109 : BitVec 32 := 1#32
  let v165 : BitVec 32 := Scalar.muli v68 c1_i32_109
  let v166 : BitVec 32 := Scalar.addi c0_i32_110 v165
  v166.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v193 : BitVec 32 := Scalar.muli v2 c128_i32
  let c0_i32_126 : BitVec 32 := 0#32
  ![v193.toNat, 0]
def k0_dev10 (d0 : Dev nD) : Nat :=
  let c0_i32_143 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.muli c4_i32_23 v19
  let c2_i32_24 : BitVec 32 := 2#32
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.subi c1_i32_22 v46
  let v59 : BitVec 32 := Scalar.muli c2_i32_24 v57
  let v60 : BitVec 32 := Scalar.addi v58 v59
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v61 : BitVec 32 := Scalar.xori v50 v57
  let v62 : BitVec 32 := Scalar.addi v60 v61
  let c1_i32_142 : BitVec 32 := 1#32
  let v207 : BitVec 32 := Scalar.muli v62 c1_i32_142
  let v208 : BitVec 32 := Scalar.addi c0_i32_143 v207
  v208.toNat
def k0_dev11 (d0 : Dev nD) : Nat :=
  let c0_i32_162 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.muli c4_i32_23 v19
  let c2_i32_24 : BitVec 32 := 2#32
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.subi c1_i32_22 v46
  let v59 : BitVec 32 := Scalar.muli c2_i32_24 v57
  let v60 : BitVec 32 := Scalar.addi v58 v59
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v61 : BitVec 32 := Scalar.xori v50 v57
  let v62 : BitVec 32 := Scalar.addi v60 v61
  let c1_i32_161 : BitVec 32 := 1#32
  let v225 : BitVec 32 := Scalar.muli v62 c1_i32_161
  let v226 : BitVec 32 := Scalar.addi c0_i32_162 v225
  v226.toNat
def k0_dev12 (d0 : Dev nD) : Nat :=
  let c0_i32_171 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v63 : BitVec 32 := Scalar.subi c1_i32_25 v19
  let v64 : BitVec 32 := Scalar.muli c4_i32_26 v63
  let c2_i32_27 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v65 : BitVec 32 := Scalar.muli c2_i32_27 v46
  let v66 : BitVec 32 := Scalar.addi v64 v65
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v67 : BitVec 32 := Scalar.xori v50 v46
  let v68 : BitVec 32 := Scalar.addi v66 v67
  let c1_i32_170 : BitVec 32 := 1#32
  let v235 : BitVec 32 := Scalar.muli v68 c1_i32_170
  let v236 : BitVec 32 := Scalar.addi c0_i32_171 v235
  v236.toNat
def k0_dev13 (d0 : Dev nD) : Nat :=
  let c0_i32_191 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v63 : BitVec 32 := Scalar.subi c1_i32_25 v19
  let v64 : BitVec 32 := Scalar.muli c4_i32_26 v63
  let c2_i32_27 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v65 : BitVec 32 := Scalar.muli c2_i32_27 v46
  let v66 : BitVec 32 := Scalar.addi v64 v65
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v67 : BitVec 32 := Scalar.xori v50 v46
  let v68 : BitVec 32 := Scalar.addi v66 v67
  let c1_i32_190 : BitVec 32 := 1#32
  let v253 : BitVec 32 := Scalar.muli v68 c1_i32_190
  let v254 : BitVec 32 := Scalar.addi c0_i32_191 v253
  v254.toNat
def k0_dev14 (d0 : Dev nD) : Nat :=
  let c0_i32_200 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_20 v19
  let c2_i32_21 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_21 v46
  let v54 : BitVec 32 := Scalar.addi v52 v53
  let c1_i32_19 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v51 : BitVec 32 := Scalar.subi c1_i32_19 v50
  let v55 : BitVec 32 := Scalar.xori v51 v46
  let v56 : BitVec 32 := Scalar.addi v54 v55
  let c1_i32_199 : BitVec 32 := 1#32
  let v263 : BitVec 32 := Scalar.muli v56 c1_i32_199
  let v264 : BitVec 32 := Scalar.addi c0_i32_200 v263
  v264.toNat
def k0_dev15 (d0 : Dev nD) : Nat :=
  let c0_i32_219 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_20 v19
  let c2_i32_21 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_21 v46
  let v54 : BitVec 32 := Scalar.addi v52 v53
  let c1_i32_19 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v51 : BitVec 32 := Scalar.subi c1_i32_19 v50
  let v55 : BitVec 32 := Scalar.xori v51 v46
  let v56 : BitVec 32 := Scalar.addi v54 v55
  let c1_i32_218 : BitVec 32 := 1#32
  let v281 : BitVec 32 := Scalar.muli v56 c1_i32_218
  let v282 : BitVec 32 := Scalar.addi c0_i32_219 v281
  v282.toNat
def k0_dev16 (d0 : Dev nD) : Nat :=
  let c0_i32_238 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_20 v19
  let c2_i32_21 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_21 v46
  let v54 : BitVec 32 := Scalar.addi v52 v53
  let c1_i32_19 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v51 : BitVec 32 := Scalar.subi c1_i32_19 v50
  let v55 : BitVec 32 := Scalar.xori v51 v46
  let v56 : BitVec 32 := Scalar.addi v54 v55
  let c1_i32_237 : BitVec 32 := 1#32
  let v299 : BitVec 32 := Scalar.muli v56 c1_i32_237
  let v300 : BitVec 32 := Scalar.addi c0_i32_238 v299
  v300.toNat
def k0_dev17 (d0 : Dev nD) : Nat :=
  let c0_i32_257 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v63 : BitVec 32 := Scalar.subi c1_i32_25 v19
  let v64 : BitVec 32 := Scalar.muli c4_i32_26 v63
  let c2_i32_27 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v65 : BitVec 32 := Scalar.muli c2_i32_27 v46
  let v66 : BitVec 32 := Scalar.addi v64 v65
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v67 : BitVec 32 := Scalar.xori v50 v46
  let v68 : BitVec 32 := Scalar.addi v66 v67
  let c1_i32_256 : BitVec 32 := 1#32
  let v317 : BitVec 32 := Scalar.muli v68 c1_i32_256
  let v318 : BitVec 32 := Scalar.addi c0_i32_257 v317
  v318.toNat
def k0_off2 (d0 : Dev nD) : Fin 2 → Nat :=
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_20 v19
  let c2_i32_21 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_21 v46
  let v54 : BitVec 32 := Scalar.addi v52 v53
  let c1_i32_19 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v51 : BitVec 32 := Scalar.subi c1_i32_19 v50
  let v55 : BitVec 32 := Scalar.xori v51 v46
  let v56 : BitVec 32 := Scalar.addi v54 v55
  let c128_i32_282 : BitVec 32 := 128#32
  let v355 : BitVec 32 := Scalar.muli v56 c128_i32_282
  let c0_i32_285 : BitVec 32 := 0#32
  ![v355.toNat, 0]
def k0_off3 (d0 : Dev nD) : Fin 2 → Nat :=
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.muli c4_i32_23 v19
  let c2_i32_24 : BitVec 32 := 2#32
  let c1_i32_22 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v57 : BitVec 32 := Scalar.subi c1_i32_22 v46
  let v59 : BitVec 32 := Scalar.muli c2_i32_24 v57
  let v60 : BitVec 32 := Scalar.addi v58 v59
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v61 : BitVec 32 := Scalar.xori v50 v57
  let v62 : BitVec 32 := Scalar.addi v60 v61
  let c128_i32_308 : BitVec 32 := 128#32
  let v389 : BitVec 32 := Scalar.muli v62 c128_i32_308
  let c0_i32_311 : BitVec 32 := 0#32
  ![v389.toNat, 0]
def k0_off4 (d0 : Dev nD) : Fin 2 → Nat :=
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v63 : BitVec 32 := Scalar.subi c1_i32_25 v19
  let v64 : BitVec 32 := Scalar.muli c4_i32_26 v63
  let c2_i32_27 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v65 : BitVec 32 := Scalar.muli c2_i32_27 v46
  let v66 : BitVec 32 := Scalar.addi v64 v65
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v67 : BitVec 32 := Scalar.xori v50 v46
  let v68 : BitVec 32 := Scalar.addi v66 v67
  let c128_i32_324 : BitVec 32 := 128#32
  let v415 : BitVec 32 := Scalar.muli v68 c128_i32_324
  let c0_i32_327 : BitVec 32 := 0#32
  ![v415.toNat, 0]
def k0_off5 (d0 : Dev nD) : Fin 2 → Nat :=
  let c4_i32_35 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v79 : BitVec 32 := Scalar.muli c4_i32_35 v19
  let c2_i32_36 : BitVec 32 := 2#32
  let c1_i32_34 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v78 : BitVec 32 := Scalar.subi c1_i32_34 v46
  let v80 : BitVec 32 := Scalar.muli c2_i32_36 v78
  let v81 : BitVec 32 := Scalar.addi v79 v80
  let c1_i32_33 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v77 : BitVec 32 := Scalar.subi c1_i32_33 v50
  let v82 : BitVec 32 := Scalar.xori v77 v78
  let v83 : BitVec 32 := Scalar.addi v81 v82
  let c128_i32_350 : BitVec 32 := 128#32
  let v449 : BitVec 32 := Scalar.muli v83 c128_i32_350
  let c0_i32_353 : BitVec 32 := 0#32
  ![v449.toNat, 0]
def k0_off6 (d0 : Dev nD) : Fin 2 → Nat :=
  let c4_i32_39 : BitVec 32 := 4#32
  let c1_i32_38 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v85 : BitVec 32 := Scalar.subi c1_i32_38 v19
  let v86 : BitVec 32 := Scalar.muli c4_i32_39 v85
  let c2_i32_40 : BitVec 32 := 2#32
  let c1_i32_37 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v84 : BitVec 32 := Scalar.subi c1_i32_37 v46
  let v87 : BitVec 32 := Scalar.muli c2_i32_40 v84
  let v88 : BitVec 32 := Scalar.addi v86 v87
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v89 : BitVec 32 := Scalar.xori v50 v84
  let v90 : BitVec 32 := Scalar.addi v88 v89
  let c128_i32_376 : BitVec 32 := 128#32
  let v483 : BitVec 32 := Scalar.muli v90 c128_i32_376
  let c0_i32_379 : BitVec 32 := 0#32
  ![v483.toNat, 0]
def k0_off7 (d0 : Dev nD) : Fin 2 → Nat :=
  let c4_i32_43 : BitVec 32 := 4#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v92 : BitVec 32 := Scalar.subi c1_i32_42 v19
  let v93 : BitVec 32 := Scalar.muli c4_i32_43 v92
  let c2_i32_44 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v94 : BitVec 32 := Scalar.muli c2_i32_44 v46
  let v95 : BitVec 32 := Scalar.addi v93 v94
  let c1_i32_41 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v91 : BitVec 32 := Scalar.subi c1_i32_41 v50
  let v96 : BitVec 32 := Scalar.xori v91 v46
  let v97 : BitVec 32 := Scalar.addi v95 v96
  let c128_i32_412 : BitVec 32 := 128#32
  let v525 : BitVec 32 := Scalar.muli v97 c128_i32_412
  let c0_i32_415 : BitVec 32 := 0#32
  ![v525.toNat, 0]
def k0_off8 (d0 : Dev nD) : Fin 2 → Nat :=
  let c4_i32_31 : BitVec 32 := 4#32
  let c1_i32_30 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v71 : BitVec 32 := Scalar.subi c1_i32_30 v19
  let v72 : BitVec 32 := Scalar.muli c4_i32_31 v71
  let c2_i32_32 : BitVec 32 := 2#32
  let c1_i32_29 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v70 : BitVec 32 := Scalar.subi c1_i32_29 v46
  let v73 : BitVec 32 := Scalar.muli c2_i32_32 v70
  let v74 : BitVec 32 := Scalar.addi v72 v73
  let c1_i32_28 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let v50 : BitVec 32 := Scalar.extui v49
  let v69 : BitVec 32 := Scalar.subi c1_i32_28 v50
  let v75 : BitVec 32 := Scalar.xori v69 v70
  let v76 : BitVec 32 := Scalar.addi v74 v75
  let c128_i32_448 : BitVec 32 := 128#32
  let v567 : BitVec 32 := Scalar.muli v76 c128_i32_448
  let c0_i32_451 : BitVec 32 := 0#32
  ![v567.toNat, 0]
-- ==== ReferenceIdeal.lean ====
abbrev S1024x1024 : Shape := ⟨2, ![1024, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Mesh.lean ====
/-
# The mesh, the windows and what each buffer holds

Eight devices on a cube: a device has one neighbour along each of three axes. Each device sends its own block of `x`
(two halves of 64 rows) along the axes and forwards what it receives, fourteen half-block messages in all; seven
landing slots collect the seven other devices' blocks. This module fixes the tables of that schedule, names the
windows of the buffers, proves where each window lies, and writes down what every buffer holds as a function of the
launch memory.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.CubeProof

open Cert.KernelIdeal Cert.KernelIdeal.Gen

open Idealize.ShloMosaic
open Idealize.ShloMosaic.TcCoe
open Idealize.ShloMosaic.ValueIdx
open Idealize.SL Idealize.SL.Sem

variable {F : FTy → Type} [FloatOps F]

/-! ## The cube -/

/-- The device whose position differs from `c`'s by the bits of `b`. -/
def flip (b : Fin 8) (c : Dev nD) : Dev nD := ⟨(c.val ^^^ b.val) % 8, Nat.mod_lt _ (by decide)⟩

/-- The bits of the three axes. -/
def axBits : Fin 3 → Fin 8 := ![1, 3, 4]
/-- A device's neighbour along an axis. -/
def peer (a : Fin 3) (c : Dev nD) : Dev nD := flip (axBits a) c

/-- The axis along which message `k` travels. -/
def ax : Fin 14 → Fin 3 := ![0, 0, 1, 1, 2, 2, 1, 1, 2, 2, 0, 0, 0, 2]
/-- The slot message `k` lands in. -/
def slot : Fin 14 → Fin 7 := ![0, 0, 1, 1, 2, 2, 5, 4, 5, 6, 4, 6, 3, 3]
/-- The half of the block message `k` carries. -/
def half : Fin 14 → Fin 2 := ![0, 1, 1, 0, 0, 1, 0, 0, 1, 0, 1, 1, 0, 1]
/-- Where message `k` is read: the device's own block (`none`), or the slot an earlier message landed in. -/
def src : Fin 14 → Option (Fin 7) :=
  ![none, none, none, none, none, none, some 2, some 0, some 1, some 0, some 1, some 2, some 5, some 4]

/-- The bits between a slot's holder and the device whose block lands in it. -/
def orgBits : Fin 7 → Fin 8 := ![1, 3, 4, 6, 2, 7, 5]
/-- The device whose block lands in slot `s` of device `c`. -/
def org (s : Fin 7) (c : Dev nD) : Dev nD := flip (orgBits s) c

/-- The slot the `j`-th block product reads, for `j` from 1 (the first product reads the own block). -/
def slotOf : Fin 8 → Fin 7 := ![0, 0, 1, 2, 4, 5, 6, 3]
/-- The device whose block the `j`-th product on device `c` is of. -/
def orig (j : Fin 8) (c : Dev nD) : Dev nD := if j = 0 then c else org (slotOf j) c

theorem peer_peer (a : Fin 3) (c : Dev nD) : peer a (peer a c) = c := by revert a c; decide +kernel
theorem peer_inj_axis (c : Dev nD) (a b : Fin 3) : peer a c = peer b c → a = b := by revert a b c; decide +kernel
/-- A message read at the own block lands in a slot of its sender's block; -/
theorem org_own (k : Fin 14) (c : Dev nD) (h : src k = none) : org (slot k) (peer (ax k) c) = c := by
  revert k c; decide +kernel
/-- a forwarded one in a slot of the same device's block. -/
theorem org_fwd (k : Fin 14) (c : Dev nD) (s : Fin 7) (h : src k = some s) : org (slot k) (peer (ax k) c) = org s c := by
  revert k c s; decide +kernel
/-- The message that fills half `h` of slot `s`. -/
def into (s : Fin 7) (h : Fin 2) : Fin 14 := ![![0, 1], ![3, 2], ![4, 5], ![12, 13], ![7, 10], ![6, 8], ![9, 11]] s h

theorem slot_into (s : Fin 7) (h : Fin 2) : slot (into s h) = s := by revert s h; decide +kernel
theorem half_into (s : Fin 7) (h : Fin 2) : half (into s h) = h := by revert s h; decide +kernel
theorem into_slot (k : Fin 14) : into (slot k) (half k) = k := by revert k; decide +kernel

/-- Each half slot is the landing place of exactly one message. -/
def halfSlots : Fin 14 ≃ Fin 7 × Fin 2 where
  toFun k := (slot k, half k)
  invFun p := into p.1 p.2
  left_inv := into_slot
  right_inv p := Prod.ext (slot_into p.1 p.2) (half_into p.1 p.2)

theorem orig_injective (c : Dev nD) : Function.Injective (fun j => orig j c) := by
  revert c; decide +kernel
/-- The eight products on a device are of the eight devices' blocks, each once. -/
def origs (c : Dev nD) : Fin 8 ≃ Fin 8 :=
  Equiv.ofBijective (fun j => orig j c) (Finite.injective_iff_bijective.mp (orig_injective c))

/-! ## What the kernel computes of its device id -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer (ax 0) c := by revert c; decide +kernel
theorem dev5_eq (c : Dev nD) : (⟨k0_dev5 c, k0_dev5_lt c⟩ : Dev nD) = peer (ax 2) c := by revert c; decide +kernel
theorem dev6_eq (c : Dev nD) : (⟨k0_dev6 c, k0_dev6_lt c⟩ : Dev nD) = peer (ax 4) c := by revert c; decide +kernel
theorem dev7_eq (c : Dev nD) : (⟨k0_dev7 c, k0_dev7_lt c⟩ : Dev nD) = peer (ax 1) c := by revert c; decide +kernel
theorem dev8_eq (c : Dev nD) : (⟨k0_dev8 c, k0_dev8_lt c⟩ : Dev nD) = peer (ax 3) c := by revert c; decide +kernel
theorem dev9_eq (c : Dev nD) : (⟨k0_dev9 c, k0_dev9_lt c⟩ : Dev nD) = peer (ax 5) c := by revert c; decide +kernel
theorem dev10_eq (c : Dev nD) : (⟨k0_dev10 c, k0_dev10_lt c⟩ : Dev nD) = peer (ax 6) c := by revert c; decide +kernel
theorem dev11_eq (c : Dev nD) : (⟨k0_dev11 c, k0_dev11_lt c⟩ : Dev nD) = peer (ax 7) c := by revert c; decide +kernel
theorem dev12_eq (c : Dev nD) : (⟨k0_dev12 c, k0_dev12_lt c⟩ : Dev nD) = peer (ax 9) c := by revert c; decide +kernel
theorem dev13_eq (c : Dev nD) : (⟨k0_dev13 c, k0_dev13_lt c⟩ : Dev nD) = peer (ax 8) c := by revert c; decide +kernel
theorem dev14_eq (c : Dev nD) : (⟨k0_dev14 c, k0_dev14_lt c⟩ : Dev nD) = peer (ax 10) c := by revert c; decide +kernel
theorem dev15_eq (c : Dev nD) : (⟨k0_dev15 c, k0_dev15_lt c⟩ : Dev nD) = peer (ax 11) c := by revert c; decide +kernel
theorem dev16_eq (c : Dev nD) : (⟨k0_dev16 c, k0_dev16_lt c⟩ : Dev nD) = peer (ax 12) c := by revert c; decide +kernel
theorem dev17_eq (c : Dev nD) : (⟨k0_dev17 c, k0_dev17_lt c⟩ : Dev nD) = peer (ax 13) c := by revert c; decide +kernel

theorem off1_eq (c : Dev nD) : k0_off1 c = ![128 * (orig 0 c).val, 0] := by revert c; decide +kernel
theorem off2_eq (c : Dev nD) : k0_off2 c = ![128 * (orig 1 c).val, 0] := by revert c; decide +kernel
theorem off3_eq (c : Dev nD) : k0_off3 c = ![128 * (orig 2 c).val, 0] := by revert c; decide +kernel
theorem off4_eq (c : Dev nD) : k0_off4 c = ![128 * (orig 3 c).val, 0] := by revert c; decide +kernel
theorem off5_eq (c : Dev nD) : k0_off5 c = ![128 * (orig 4 c).val, 0] := by revert c; decide +kernel
theorem off6_eq (c : Dev nD) : k0_off6 c = ![128 * (orig 5 c).val, 0] := by revert c; decide +kernel
theorem off7_eq (c : Dev nD) : k0_off7 c = ![128 * (orig 6 c).val, 0] := by revert c; decide +kernel
theorem off8_eq (c : Dev nD) : k0_off8 c = ![128 * (orig 7 c).val, 0] := by revert c; decide +kernel

/-! ## The windows -/

abbrev aM : Memref sig .tc .hbm S128x1024 .f32 := Memref.whole main_arg0
abbrev bM : Memref sig .tc .hbm S1024x128 .f32 := Memref.whole main_arg1
abbrev vM : Memref sig .tc .hbm S1024x128 .bf16 := Memref.whole main_v1
abbrev xM : Memref sig .tc .vmem S128x1024 .f32 := Memref.whole cc0_scratch0
abbrev wM : Memref sig .tc .vmem S1024x128 .f32 := Memref.whole cc0_scratch1
abbrev oM : Memref sig .tc .vmem S128x1024 .bf16 := Memref.whole cc0_scratch2
abbrev rM : Memref sig .tc .vmem S7x128x1024 .bf16 := Memref.whole cc0_scratch3
abbrev gM : Memref sig .tc .vmem S8x128x128 .bf16 := Memref.whole cc0_scratch4

theorem inb_oW (h : Fin 2) : ∀ a, (![h.val * 64, 0] : Fin 2 → Nat) a + S64x1024.size a ≤ S128x1024.size a := by
  revert h; decide +kernel
theorem inb_rW (s : Fin 7) (h : Fin 2) :
    ∀ a, (![s.val, h.val * 64, 0] : Fin 3 → Nat) a + S1x64x1024.size a ≤ S7x128x1024.size a := by
  revert s h; decide +kernel
theorem inb_rS (s : Fin 7) : ∀ a, (![s.val, 0, 0] : Fin 3 → Nat) a + S1x128x1024.size a ≤ S7x128x1024.size a := by
  revert s; decide +kernel
theorem inb_gW (j : Fin 8) : ∀ a, (![j.val, 0, 0] : Fin 3 → Nat) a + S1x128x128.size a ≤ S8x128x128.size a := by
  revert j; decide +kernel
theorem inb_vW (r : Fin 8) : ∀ a, (![128 * r.val, 0] : Fin 2 → Nat) a + S128x128.size a ≤ S1024x128.size a := by
  revert r; decide +kernel

/-- A half of the own block. -/
def oW (h : Fin 2) : Memref sig .tc .vmem S64x1024 .bf16 :=
  oM.slice (Rect.unit (s := S128x1024) ![h.val * 64, 0] S64x1024.size (inb_oW h)) (fun _ => rfl)
/-- A half of a landing slot. -/
def rW (s : Fin 7) (h : Fin 2) : Memref sig .tc .vmem S64x1024 .bf16 :=
  (rM.slice (Rect.unit (s := S7x128x1024) ![s.val, h.val * 64, 0] S1x64x1024.size (inb_rW s h)) (fun _ => rfl)).squeeze
    S64x1024 squeezes_S1x64x1024_S64x1024
/-- The rectangle a whole slot is loaded by. -/
abbrev rS (s : Fin 7) : Rect S7x128x1024 := Rect.unit (s := S7x128x1024) ![s.val, 0, 0] S1x128x1024.size (inb_rS s)
/-- The rectangle a block of the staged results is stored by. -/
abbrev gR (j : Fin 8) : Rect S8x128x128 := Rect.unit (s := S8x128x128) ![j.val, 0, 0] S1x128x128.size (inb_gW j)
/-- A block of the staged results. -/
def gW (j : Fin 8) : Memref sig .tc .vmem S128x128 .bf16 :=
  (gM.slice (gR j) (fun _ => rfl)).squeeze S128x128 squeezes_S1x128x128_S128x128
/-- A block of rows of the result. -/
def vW (r : Fin 8) : Memref sig .tc .hbm S128x128 .bf16 :=
  vM.slice (Rect.unit (s := S1024x128) ![128 * r.val, 0] S128x128.size (inb_vW r)) (fun _ => rfl)

/-! ### Where a window's elements lie -/

theorem exists_ix2 {n0 n1 : Nat} (x : (⟨2, ![n0, n1]⟩ : Shape).Idx) : ∃ (a : Fin n0) (b : Fin n1), x = ix2 a b :=
  ⟨x 0, x 1, eq_ix2 x⟩
theorem exists_ix3 {n0 n1 n2 : Nat} (x : (⟨3, ![n0, n1, n2]⟩ : Shape).Idx) :
    ∃ (a : Fin n0) (b : Fin n1) (c : Fin n2), x = ix3 a b c :=
  ⟨x 0, x 1, x 2, eq_ix3 x⟩

/-- The place in the buffer of a window's element, and the window's elements, written over the buffer's own shape. -/
def oE (h : Fin 2) (x : S64x1024.Idx) : S128x1024.Idx := (oW h).view.emb x
def rE (s : Fin 7) (h : Fin 2) (x : S64x1024.Idx) : S7x128x1024.Idx := (rW s h).view.emb x
def sE (s : Fin 7) (x : S1x128x1024.Idx) : S7x128x1024.Idx := (rM.access (rS s) : View sig .tc _ _ _).emb x
def gE (j : Fin 8) (x : S128x128.Idx) : S8x128x128.Idx := (gW j).view.emb x
def vE (r : Fin 8) (x : S128x128.Idx) : S1024x128.Idx := (vW r).view.emb x
def oSet (h : Fin 2) : Finset S128x1024.Idx := (oW h).view.set
def rSet (s : Fin 7) (h : Fin 2) : Finset S7x128x1024.Idx := (rW s h).view.set
def sSet (s : Fin 7) : Finset S7x128x1024.Idx := (rM.access (rS s) : View sig .tc _ _ _).set
def gSet (j : Fin 8) : Finset S8x128x128.Idx := (gW j).view.set
def vSet (r : Fin 8) : Finset S1024x128.Idx := (vW r).view.set

theorem mem_oSet (h : Fin 2) (i : S128x1024.Idx) : i ∈ oSet h ↔ ∃ x, oE h x = i :=
  ⟨fun hi => by obtain ⟨x, -, e⟩ := Finset.mem_map.mp hi; exact ⟨x, e⟩, by rintro ⟨x, rfl⟩; exact View.emb_mem_set _ _⟩
theorem mem_rSet (s : Fin 7) (h : Fin 2) (i : S7x128x1024.Idx) : i ∈ rSet s h ↔ ∃ x, rE s h x = i :=
  ⟨fun hi => by obtain ⟨x, -, e⟩ := Finset.mem_map.mp hi; exact ⟨x, e⟩, by rintro ⟨x, rfl⟩; exact View.emb_mem_set _ _⟩
theorem mem_sSet (s : Fin 7) (i : S7x128x1024.Idx) : i ∈ sSet s ↔ ∃ x, sE s x = i :=
  ⟨fun hi => by obtain ⟨x, -, e⟩ := Finset.mem_map.mp hi; exact ⟨x, e⟩, by rintro ⟨x, rfl⟩; exact View.emb_mem_set _ _⟩
theorem mem_gSet (j : Fin 8) (i : S8x128x128.Idx) : i ∈ gSet j ↔ ∃ x, gE j x = i :=
  ⟨fun hi => by obtain ⟨x, -, e⟩ := Finset.mem_map.mp hi; exact ⟨x, e⟩, by rintro ⟨x, rfl⟩; exact View.emb_mem_set _ _⟩
theorem mem_vSet (r : Fin 8) (i : S1024x128.Idx) : i ∈ vSet r ↔ ∃ x, vE r x = i :=
  ⟨fun hi => by obtain ⟨x, -, e⟩ := Finset.mem_map.mp hi; exact ⟨x, e⟩, by rintro ⟨x, rfl⟩; exact View.emb_mem_set _ _⟩

theorem oW_emb (h : Fin 2) (a : Fin 64) (b : Fin 1024) :
    oE h (ix2 a b) = ix2 ⟨h.val * 64 + a.val, by omega⟩ b := by
  funext d
  match d with
  | ⟨0, _⟩ => exact Fin.ext (by show h.val * 64 + 1 * a.val = _; rw [Nat.one_mul])
  | ⟨1, _⟩ => exact Fin.ext (by show 0 + 1 * b.val = _; rw [Nat.one_mul, Nat.zero_add])

theorem rW_emb (s : Fin 7) (h : Fin 2) (a : Fin 64) (b : Fin 1024) :
    rE s h (ix2 a b) = ix3 s ⟨h.val * 64 + a.val, by omega⟩ b := by
  have e : rE s h (ix2 a b)
      = (Rect.unit (s := S7x128x1024) ![s.val, h.val * 64, 0] S1x64x1024.size (inb_rW s h)).emb
          (Shape.reshapeEquiv (show S64x1024.numel = S1x64x1024.numel by decide) (ix2 a b)) := rfl
  rw [e, show (Shape.reshapeEquiv (show S64x1024.numel = S1x64x1024.numel by decide) (ix2 a b)) = (ix3 ⟨0, Nat.one_pos⟩ a b : S1x64x1024.Idx)
    from reshapeEquiv_ix2_1ab _ a b]
  funext d
  match d with
  | ⟨0, _⟩ => exact Fin.ext (by show s.val + 1 * 0 = _; rfl)
  | ⟨1, _⟩ => exact Fin.ext (by show h.val * 64 + 1 * a.val = _; rw [Nat.one_mul])
  | ⟨2, _⟩ => exact Fin.ext (by show 0 + 1 * b.val = _; rw [Nat.one_mul, Nat.zero_add])

theorem sE_emb (s : Fin 7) (z : Fin 1) (a : Fin 128) (b : Fin 1024) : sE s (ix3 z a b) = ix3 s a b := by
  funext d
  match d with
  | ⟨0, _⟩ => exact Fin.ext (by show s.val + 1 * z.val = s.val; omega)
  | ⟨1, _⟩ => exact Fin.ext (by show 0 + 1 * a.val = a.val; omega)
  | ⟨2, _⟩ => exact Fin.ext (by show 0 + 1 * b.val = b.val; omega)

theorem gW_emb (j : Fin 8) (a b : Fin 128) : gE j (ix2 a b) = ix3 j a b := by
  have e : gE j (ix2 a b)
      = (gR j).emb (Shape.reshapeEquiv (show S128x128.numel = S1x128x128.numel by decide) (ix2 a b)) := rfl
  rw [e, show (Shape.reshapeEquiv (show S128x128.numel = S1x128x128.numel by decide) (ix2 a b)) = (ix3 ⟨0, Nat.one_pos⟩ a b : S1x128x128.Idx)
    from reshapeEquiv_ix2_1ab _ a b]
  funext d
  match d with
  | ⟨0, _⟩ => exact Fin.ext (by show j.val + 1 * 0 = _; rfl)
  | ⟨1, _⟩ => exact Fin.ext (by show 0 + 1 * a.val = _; rw [Nat.one_mul, Nat.zero_add])
  | ⟨2, _⟩ => exact Fin.ext (by show 0 + 1 * b.val = _; rw [Nat.one_mul, Nat.zero_add])

theorem vW_emb (r : Fin 8) (a b : Fin 128) : vE r (ix2 a b) = ix2 ⟨128 * r.val + a.val, by omega⟩ b := by
  funext d
  match d with
  | ⟨0, _⟩ => exact Fin.ext (by show 128 * r.val + 1 * a.val = _; rw [Nat.one_mul])
  | ⟨1, _⟩ => exact Fin.ext (by show 0 + 1 * b.val = _; rw [Nat.one_mul, Nat.zero_add])

/-- An index lies in a half of the own block by its row; -/
theorem mem_oW (h : Fin 2) (i : S128x1024.Idx) : i ∈ oSet h ↔ (i 0).val / 64 = h.val := by
  obtain ⟨a, b, rfl⟩ := exists_ix2 (n0 := 128) (n1 := 1024) i
  rw [mem_oSet]
  constructor
  · rintro ⟨x, hx⟩
    obtain ⟨a', b', rfl⟩ := exists_ix2 (n0 := 64) (n1 := 1024) x
    rw [oW_emb] at hx
    have : h.val * 64 + a'.val = a.val := congrArg (fun i : S128x1024.Idx => (i 0).val) hx
    show a.val / 64 = _
    omega
  · intro (hi : a.val / 64 = h.val)
    exact ⟨ix2 (⟨a.val - h.val * 64, by omega⟩ : Fin 64) b, by
      rw [oW_emb]; congr 1; exact Fin.ext (by show h.val * 64 + (a.val - h.val * 64) = a.val; omega)⟩

/-- in a half of a slot by its slot and its row; -/
theorem mem_rW (s : Fin 7) (h : Fin 2) (i : S7x128x1024.Idx) :
    i ∈ rSet s h ↔ (i 0).val = s.val ∧ (i 1).val / 64 = h.val := by
  obtain ⟨z, a, b, rfl⟩ := exists_ix3 (n0 := 7) (n1 := 128) (n2 := 1024) i
  rw [mem_rSet]
  constructor
  · rintro ⟨x, hx⟩
    obtain ⟨a', b', rfl⟩ := exists_ix2 (n0 := 64) (n1 := 1024) x
    rw [rW_emb] at hx
    have h0 : s.val = z.val := congrArg (fun i : S7x128x1024.Idx => (i 0).val) hx
    have h1 : h.val * 64 + a'.val = a.val := congrArg (fun i : S7x128x1024.Idx => (i 1).val) hx
    show z.val = _ ∧ a.val / 64 = _
    omega
  · intro ⟨(h0 : z.val = s.val), (hi : a.val / 64 = h.val)⟩
    obtain rfl : z = s := Fin.ext h0
    exact ⟨ix2 (⟨a.val - h.val * 64, by omega⟩ : Fin 64) b, by
      rw [rW_emb]; congr 1; exact Fin.ext (by show h.val * 64 + (a.val - h.val * 64) = a.val; omega)⟩

/-- in a whole slot by its slot; -/
theorem mem_sS (s : Fin 7) (i : S7x128x1024.Idx) : i ∈ sSet s ↔ (i 0).val = s.val := by
  obtain ⟨z, a, b, rfl⟩ := exists_ix3 (n0 := 7) (n1 := 128) (n2 := 1024) i
  rw [mem_sSet]
  constructor
  · rintro ⟨x, hx⟩
    obtain ⟨z', a', b', rfl⟩ := exists_ix3 (n0 := 1) (n1 := 128) (n2 := 1024) x
    rw [sE_emb] at hx
    exact (congrArg (fun i : S7x128x1024.Idx => (i 0).val) hx).symm
  · intro (h0 : z.val = s.val)
    obtain rfl : z = s := Fin.ext h0
    exact ⟨ix3 (⟨0, Nat.one_pos⟩ : Fin 1) a b, by rw [sE_emb]⟩

/-- in a block of the staged results by its first coordinate; -/
theorem mem_gW (j : Fin 8) (i : S8x128x128.Idx) : i ∈ gSet j ↔ (i 0).val = j.val := by
  obtain ⟨z, a, b, rfl⟩ := exists_ix3 (n0 := 8) (n1 := 128) (n2 := 128) i
  rw [mem_gSet]
  constructor
  · rintro ⟨x, hx⟩
    obtain ⟨a', b', rfl⟩ := exists_ix2 (n0 := 128) (n1 := 128) x
    rw [gW_emb] at hx
    exact (congrArg (fun i : S8x128x128.Idx => (i 0).val) hx).symm
  · intro (h0 : z.val = j.val)
    obtain rfl : z = j := Fin.ext h0
    exact ⟨ix2 a b, by rw [gW_emb]⟩

/-- in a block of rows of the result by its row. -/
theorem mem_vW (r : Fin 8) (i : S1024x128.Idx) : i ∈ vSet r ↔ (i 0).val / 128 = r.val := by
  obtain ⟨a, b, rfl⟩ := exists_ix2 (n0 := 1024) (n1 := 128) i
  rw [mem_vSet]
  constructor
  · rintro ⟨x, hx⟩
    obtain ⟨a', b', rfl⟩ := exists_ix2 (n0 := 128) (n1 := 128) x
    rw [vW_emb] at hx
    have : 128 * r.val + a'.val = a.val := congrArg (fun i : S1024x128.Idx => (i 0).val) hx
    show a.val / 128 = _
    omega
  · intro (hi : a.val / 128 = r.val)
    exact ⟨ix2 (⟨a.val - 128 * r.val, by omega⟩ : Fin 128) b, by
      rw [vW_emb]; congr 1; exact Fin.ext (by show 128 * r.val + (a.val - 128 * r.val) = a.val; omega)⟩

/-- The store rectangle of a block of the staged results has the block's elements, -/
theorem gR_set (j : Fin 8) : (gM.access (gR j) : View sig .tc _ _ _).set = gSet j :=
  (View.set_reshape (s' := S128x128) (gM.access (gR j) : View sig .tc .vmem S1x128x128 .bf16) (show S128x128.numel = S1x128x128.numel by decide)).symm
/-- and the load rectangle of a slot the elements of its two halves. -/
theorem sSet_eq (s : Fin 7) : sSet s = rSet s 0 ∪ rSet s 1 := by
  refine Finset.ext fun (i : S7x128x1024.Idx) => ?_
  have hl : (i 1).val < 128 := (i 1).isLt
  rw [mem_sS, Finset.mem_union, mem_rW, mem_rW]
  constructor
  · intro h
    rcases Nat.lt_or_ge (i 1).val 64 with h' | h'
    · exact .inl ⟨h, by show _ = 0; omega⟩
    · exact .inr ⟨h, by show _ = 1; omega⟩
  · rintro (h | h) <;> exact h.1

/-! ### The windows cut the buffers up -/

theorem oW_disjoint (h h' : Fin 2) (hn : h ≠ h') : Disjoint (oSet h) (oSet h') :=
  Finset.disjoint_left.mpr fun i hi hi' => hn (Fin.ext (((mem_oW h i).mp hi).symm.trans ((mem_oW h' i).mp hi')))
theorem oW_cover : Finset.univ.biUnion oSet = Finset.univ :=
  Finset.eq_univ_of_forall fun i => Finset.mem_biUnion.mpr
    ⟨⟨(i 0).val / 64, by have : (i 0).val < 128 := (i 0).isLt; omega⟩, Finset.mem_univ _, (mem_oW _ i).mpr rfl⟩
/-- The half slot of message `k`. -/
def kSet (k : Fin 14) : Finset S7x128x1024.Idx := rSet (slot k) (half k)
theorem kSet_disjoint (k k' : Fin 14) (hn : k ≠ k') : Disjoint (kSet k) (kSet k') :=
  Finset.disjoint_left.mpr fun i hi hi' => hn (halfSlots.injective (Prod.ext
    (Fin.ext (((mem_rW _ _ i).mp hi).1.symm.trans ((mem_rW _ _ i).mp hi').1))
    (Fin.ext (((mem_rW _ _ i).mp hi).2.symm.trans ((mem_rW _ _ i).mp hi').2))))
theorem kSet_cover : Finset.univ.biUnion kSet = Finset.univ :=
  Finset.eq_univ_of_forall fun i => by
    have hl : (i 1).val < 128 := (i 1).isLt
    let h : Fin 2 := ⟨(i 1).val / 64, by omega⟩
    exact Finset.mem_biUnion.mpr ⟨into (i 0) h, Finset.mem_univ _,
      (mem_rW _ _ i).mpr ⟨congrArg Fin.val (slot_into (i 0) h).symm, congrArg Fin.val (half_into (i 0) h).symm⟩⟩
theorem gW_disjoint (j j' : Fin 8) (hn : j ≠ j') : Disjoint (gSet j) (gSet j') :=
  Finset.disjoint_left.mpr fun i hi hi' => hn (Fin.ext (((mem_gW j i).mp hi).symm.trans ((mem_gW j' i).mp hi')))
theorem gW_cover : Finset.univ.biUnion gSet = Finset.univ :=
  Finset.eq_univ_of_forall fun i => Finset.mem_biUnion.mpr ⟨i 0, Finset.mem_univ _, (mem_gW _ i).mpr rfl⟩
theorem vW_disjoint (r r' : Fin 8) (hn : r ≠ r') : Disjoint (vSet r) (vSet r') :=
  Finset.disjoint_left.mpr fun i hi hi' => hn (Fin.ext (((mem_vW r i).mp hi).symm.trans ((mem_vW r' i).mp hi')))
theorem vW_cover : Finset.univ.biUnion vSet = Finset.univ :=
  Finset.eq_univ_of_forall fun i => Finset.mem_biUnion.mpr
    ⟨⟨(i 0).val / 128, by have : (i 0).val < 1024 := (i 0).isLt; omega⟩, Finset.mem_univ _, (mem_vW _ i).mpr rfl⟩

/-! ## What the buffers hold -/

section Contents
variable (m : (ℓ : Loc nD τ sig) → Buf (Elt F) ℓ)

/-- The device's block of `x`; -/
def X (c : Dev nD) : Vec F S128x1024 .f32 := m ((c : Thread nD τ).loc main_arg0)
/-- and of `w`. -/
def W (c : Dev nD) : Vec F S1024x128 .f32 := m ((c : Thread nD τ).loc main_arg1)
/-- The own block as it is sent: `x`'s block rounded to bf16; -/
def ownC (c : Dev nD) : FVec F S128x1024 .bf16 := k0_pay1 (X m c)
/-- `w`'s block rounded to bf16. -/
def w16 (c : Dev nD) : FVec F S1024x128 .bf16 := k0_pay2 (W m c)
/-- The landing slots once everything has arrived: slot `s` holds the own block of device `org s c`. -/
def landed (c : Dev nD) : Vec F S7x128x1024 .bf16 := fun i => ownC m (org (i 0) c) (ix2 (i 1) (i 2))
/-- The product of device `r`'s block with `c`'s columns, through the activation. -/
def blkC (c r : Dev nD) : FVec F S1x128x128 .bf16 := k0_pay3 (w16 m c) (ownC m r)
/-- The staged results: block `j` is of device `orig j c`'s rows. -/
def stagedC (c : Dev nD) : Vec F S8x128x128 .bf16 := fun i => blkC m c (orig (i 0) c) (ix3 (⟨0, Nat.one_pos⟩ : Fin 1) (i 1) (i 2))
/-- The result: rows `128 r` on are of device `r`'s block. -/
def resC (c : Dev nD) : Vec F S1024x128 .bf16 := fun i =>
  blkC m c ⟨(i 0).val / 128, by have : (i 0).val < 1024 := (i 0).isLt; show _ < 8; omega⟩
    (ix3 (⟨0, Nat.one_pos⟩ : Fin 1) ⟨(i 0).val % 128, Nat.mod_lt _ (by decide)⟩ (i 1))

/-- What lands in the window of a message read at the own block is that block's half; -/
theorem landed_own (k : Fin 14) (c : Dev nD) (h : src k = none) (x : S64x1024.Idx) :
    landed m (peer (ax k) c) (rE (slot k) (half k) x) = ownC m c (oE (half k) x) := by
  obtain ⟨a, b, rfl⟩ := exists_ix2 (n0 := 64) (n1 := 1024) x
  rw [rW_emb, oW_emb]
  show ownC m (org (slot k) (peer (ax k) c)) _ = _
  rw [org_own k c h]
/-- in the window of a forwarded message, what landed in the slot it is read at. -/
theorem landed_fwd (k : Fin 14) (c : Dev nD) (s : Fin 7) (h : src k = some s) (x : S64x1024.Idx) :
    landed m (peer (ax k) c) (rE (slot k) (half k) x) = landed m c (rE s (half k) x) := by
  obtain ⟨a, b, rfl⟩ := exists_ix2 (n0 := 64) (n1 := 1024) x
  rw [rW_emb, rW_emb]
  show ownC m (org (slot k) (peer (ax k) c)) _ = ownC m (org s c) _
  rw [org_fwd k c s h]
/-- A staged block, copied to its rows of the result. -/
theorem res_staged (c : Dev nD) (j : Fin 8) (x : S128x128.Idx) :
    resC m c (vE (orig j c) x) = stagedC m c (gE j x) := by
  obtain ⟨a, b, rfl⟩ := exists_ix2 (n0 := 128) (n1 := 128) x
  rw [vW_emb, gW_emb]
  show blkC m c ⟨(128 * (orig j c).val + a.val) / 128, _⟩ (ix3 _ ⟨(128 * (orig j c).val + a.val) % 128, _⟩ _) = blkC m c (orig j c) _
  have e1 : (⟨(128 * (orig j c).val + a.val) / 128, by have : (orig j c).val < 8 := (orig j c).isLt; show _ < 8; omega⟩ : Dev nD) = orig j c := Fin.ext (by show (128 * (orig j c).val + a.val) / 128 = _; omega)
  have e2 : (⟨(128 * (orig j c).val + a.val) % 128, Nat.mod_lt _ (by decide)⟩ : Fin 128) = a := Fin.ext (by show (128 * (orig j c).val + a.val) % 128 = _; omega)
  rw [e1, e2]
/-- A loaded slot, its unit axis dropped, is the own block of the device it came from. -/
theorem slot_val (c : Dev nD) (s : Fin 7) (h : S1x128x1024.ShapeCasts S128x1024) :
    shapeCast S128x1024 (rM.view.readAt (Elt F) (rS s).toLoadRect (landed m c)) h = ownC m (org s c) := by
  funext x
  obtain ⟨a, b, rfl⟩ := exists_ix2 (n0 := 128) (n1 := 1024) x
  have e : shapeCast S128x1024 (rM.view.readAt (Elt F) (rS s).toLoadRect (landed m c)) h (ix2 a b)
      = landed m c (sE s (Shape.reshapeEquiv (show S128x1024.numel = S1x128x1024.numel by decide) (ix2 a b))) := rfl
  rw [e, show (Shape.reshapeEquiv (show S128x1024.numel = S1x128x1024.numel by decide) (ix2 a b)) = (ix3 ⟨0, Nat.one_pos⟩ a b : S1x128x1024.Idx)
    from reshapeEquiv_ix2_1ab _ a b, sE_emb]
  rfl

end Contents

end Cert.CubeProof

end
-- ==== Proof.Sched.lean ====
/-
# The protocol: who pays which semaphore, with what, and in which order

Each device has 39 semaphores: the barrier's, a send and a receive semaphore for each of the fourteen messages, two for
the loads of its operands and eight for the blocks of its result. Every one of them is used for a single round, and
this module says what that round is: its duties, their amounts, and what each payment hands to the waiter. It also fixes what
a device owes at launch and the levels that rule out a cycle of waits.
-/
module

public import proofs.«01_k».proof.Proof.Mesh

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the launch's own and the protocol's, whose duties are named by an axis -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The semaphores -/

abbrev barS : Sem sig := (SemArray.scalar (sig.barrier 0 rfl) : Sems sig S_).sem
def sendS (k : Fin 14) : DmaSem sig := ⟨k.val, by have := k.isLt; show _ < 38; omega⟩
def recvS (k : Fin 14) : DmaSem sig := ⟨14 + k.val, by have := k.isLt; show _ < 38; omega⟩
def loadS (i : Fin 2) : DmaSem sig := ⟨28 + i.val, by have := i.isLt; show _ < 38; omega⟩
def outS (j : Fin 8) : DmaSem sig := ⟨30 + j.val, by have := j.isLt; show _ < 38; omega⟩

/-- A semaphore of a device. -/
abbrev cell (c : Dev nD) (sm : SemLoc sig) : GSem nD τ sig := ((c : Thread nD τ), sm)
abbrev barCell (c : Dev nD) : GSem nD τ sig := cell c (.reg barS)
abbrev sendCell (k : Fin 14) (c : Dev nD) : GSem nD τ sig := cell c (.dma (sendS k))
abbrev recvCell (k : Fin 14) (c : Dev nD) : GSem nD τ sig := cell c (.dma (recvS k))
abbrev loadCell (i : Fin 2) (c : Dev nD) : GSem nD τ sig := cell c (.dma (loadS i))
abbrev outCell (j : Fin 8) (c : Dev nD) : GSem nD τ sig := cell c (.dma (outS j))

/-- What a half block, an operand and a block of the result count on a semaphore. -/
abbrev N : ℕ := (rW 0 0).view.dmaCredit
abbrev Nx : ℕ := xM.view.dmaCredit
abbrev Nw : ℕ := wM.view.dmaCredit
abbrev Ng : ℕ := (vW 0).view.dmaCredit
theorem N_pos : 0 < N := View.dmaCredit_pos _ (by decide)
theorem Nx_pos : 0 < Nx := View.dmaCredit_pos _ (by decide)
theorem Nw_pos : 0 < Nw := View.dmaCredit_pos _ (by decide)
theorem Ng_pos : 0 < Ng := View.dmaCredit_pos _ (by decide)

/-! ## The pieces of memory that travel -/

/-- The share of the own block lent to a message; a slot lends to its messages the right half of the whole share, of which
    two messages read at one window take a half each. -/
def qs : Fin 14 → PosShare TreeShare :=
  ![fullShare.right.left, fullShare.right.left, fullShare.right.right.left, fullShare.right.right.left,
    fullShare.right.right.right, fullShare.right.right.right,
    fullShare.right, fullShare.right.left, fullShare.right.left, fullShare.right.right, fullShare.right.right, fullShare.right,
    fullShare.right, fullShare.right]

/-- A half of the own block, the block rounded; -/
def oPts (h : Fin 2) (c : Dev nD) (q : PosShare TreeShare) : sProp 𝕄 :=
  (c : Thread nD τ).loc cc0_scratch2 ↦[oSet h]{q} ownC m c
/-- the half slot of message `k`, the message landed; -/
def rPts (k : Fin 14) (c : Dev nD) (q : PosShare TreeShare) : sProp 𝕄 :=
  (c : Thread nD τ).loc cc0_scratch3 ↦[kSet k]{q} landed m c
/-- the half slot of message `k`, whatever it holds; -/
def rAny (k : Fin 14) (c : Dev nD) : sProp 𝕄 :=
  iprop(∃ f : Buf (Elt F) ((c : Thread nD τ).loc cc0_scratch3), (c : Thread nD τ).loc cc0_scratch3 ↦[kSet k]{fullShare} f)
/-- what message `k` is read at, at the share it borrows; -/
def srcPts (k : Fin 14) (c : Dev nD) : sProp 𝕄 :=
  match src k with
  | none => oPts m (half k) c (qs k)
  | some s => rPts m (into s (half k)) c (qs k)
/-- a staged block of results; -/
def gPts (j : Fin 8) (c : Dev nD) : sProp 𝕄 :=
  (c : Thread nD τ).loc cc0_scratch4 ↦[gSet j]{fullShare} stagedC m c
def gAny (j : Fin 8) (c : Dev nD) : sProp 𝕄 :=
  iprop(∃ f : Buf (Elt F) ((c : Thread nD τ).loc cc0_scratch4), (c : Thread nD τ).loc cc0_scratch4 ↦[gSet j]{fullShare} f)
/-- a block of rows of the result, done; -/
def vPts (r : Fin 8) (c : Dev nD) : sProp 𝕄 :=
  (c : Thread nD τ).loc main_v1 ↦[vSet r]{fullShare} resC m c
def vAny (r : Fin 8) (c : Dev nD) : sProp 𝕄 :=
  iprop(∃ f : Buf (Elt F) ((c : Thread nD τ).loc main_v1), (c : Thread nD τ).loc main_v1 ↦[vSet r]{fullShare} f)
/-- the operands, and their copies in the scratch buffers. -/
def aPts (c : Dev nD) : sProp 𝕄 := (c : Thread nD τ).loc main_arg0 ↦{fullShare} X m c
def bPts (c : Dev nD) : sProp 𝕄 := (c : Thread nD τ).loc main_arg1 ↦{fullShare} W m c
def xPts (c : Dev nD) : sProp 𝕄 := (c : Thread nD τ).loc cc0_scratch0 ↦{fullShare} X m c
def wPts (c : Dev nD) : sProp 𝕄 := (c : Thread nD τ).loc cc0_scratch1 ↦{fullShare} W m c

instance oPts_storable (h : Fin 2) (c : Dev nD) (q) : BI.Storable (upEmb : UEmb _ 𝕄) (oPts m h c q) := by unfold oPts; infer_instance
instance rPts_storable (k : Fin 14) (c : Dev nD) (q) : BI.Storable (upEmb : UEmb _ 𝕄) (rPts m k c q) := by unfold rPts; infer_instance
instance rAny_storable (k : Fin 14) (c : Dev nD) : BI.Storable (upEmb : UEmb _ 𝕄) (rAny (F := F) k c) := by unfold rAny; infer_instance
instance srcPts_storable (k : Fin 14) (c : Dev nD) : BI.Storable (upEmb : UEmb _ 𝕄) (srcPts m k c) := by
  unfold srcPts; split <;> infer_instance
instance gPts_storable (j : Fin 8) (c : Dev nD) : BI.Storable (upEmb : UEmb _ 𝕄) (gPts m j c) := by unfold gPts; infer_instance
instance vPts_storable (r : Fin 8) (c : Dev nD) : BI.Storable (upEmb : UEmb _ 𝕄) (vPts m r c) := by unfold vPts; infer_instance
instance aPts_storable (c : Dev nD) : BI.Storable (upEmb : UEmb _ 𝕄) (aPts m c) := by unfold aPts; infer_instance
instance bPts_storable (c : Dev nD) : BI.Storable (upEmb : UEmb _ 𝕄) (bPts m c) := by unfold bPts; infer_instance
instance xPts_storable (c : Dev nD) : BI.Storable (upEmb : UEmb _ 𝕄) (xPts m c) := by unfold xPts; infer_instance
instance wPts_storable (c : Dev nD) : BI.Storable (upEmb : UEmb _ 𝕄) (wPts m c) := by unfold wPts; infer_instance

/-! ## The schedule -/

/-- What a neighbour's signal along axis `a` hands device `c`: that neighbour's landing windows for `c`'s messages along `a`. -/
def barPay (a : Fin 3) (c : Dev nD) : sProp 𝕄 := bigSep (Finset.univ.filter fun k => ax k = a) fun k => rAny k (peer a c)

/-- What the completion of a transfer hands the waiter on device `c`, by the semaphore's number. -/
def dmaPay (c : Dev nD) (q : DmaSem sig) : sProp 𝕄 :=
  if h : q.val < 14 then srcPts m ⟨q.val, h⟩ c
  else if h : q.val - 14 < 14 then rPts m ⟨q.val - 14, h⟩ c fullShare
  else if q.val = 28 then iprop(xPts m c ∗ aPts m c)
  else if q.val = 29 then iprop(wPts m c ∗ bPts m c)
  else if h : q.val - 30 < 8 then iprop(vPts m (orig ⟨q.val - 30, h⟩ c) c ∗ gPts m ⟨q.val - 30, h⟩ c)
  else iprop(emp)

/-- What it counts. -/
def dmaAmt (q : DmaSem sig) : ℕ := if q.val < 28 then N else if q.val = 28 then Nx else if q.val = 29 then Nw else Ng

theorem dmaAmt_pos (q : DmaSem sig) : 0 < dmaAmt q := by
  unfold dmaAmt; split
  · exact N_pos
  · split
    · exact Nx_pos
    · split
      · exact Nw_pos
      · exact Ng_pos

instance barPay_storable (a : Fin 3) (c : Dev nD) : BI.Storable (upEmb : UEmb _ 𝕄) (barPay (F := F) a c) := by unfold barPay; infer_instance
instance dmaPay_storable (c : Dev nD) (q : DmaSem sig) : BI.Storable (upEmb : UEmb _ 𝕄) (dmaPay m c q) := by
  unfold dmaPay; (repeat' split) <;> infer_instance

/-- One round. A barrier semaphore has a duty for each axis, of one unit; every other semaphore one duty, of its transfer's
    credit. -/
def rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma q => dmaAmt q
  payload g _ d := match g.2 with | .reg _ => barPay d g.1.1 | .dma q => dmaPay m g.1.1 q
  amount_pos g _ _ _ := by
    rcases g with ⟨t, _ | q⟩
    · exact Nat.one_pos
    · exact dmaAmt_pos q

instance rd_payload_storable (g : GSem nD τ sig) (r : ℕ) (d : Fin 3) :
    BI.Storable (upEmb : UEmb _ 𝕄) ((rd m).payload g r d) := by
  rcases g with ⟨t, s | q⟩
  · show BI.Storable upEmb (barPay d t.1); infer_instance
  · show BI.Storable upEmb (dmaPay m t.1 q); infer_instance

theorem duties_bar (c : Dev nD) : (rd m).duties (barCell c) 0 = Finset.univ := rfl
theorem duties_dma (c : Dev nD) (q : DmaSem sig) : (rd m).duties (cell c (.dma q)) 0 = {0} := rfl
theorem duties_later (g : GSem nD τ sig) : ∀ r, 1 ≤ r → (rd m).duties g r = ∅ :=
  fun r hr => by dsimp only [rd]; rw [if_neg fun h => by omega]
theorem expect_bar (c : Dev nD) : (rd m).expect (barCell c) 0 = 3 := by
  unfold Schedule.expect Schedule.amountOf; rw [duties_bar]; rfl
theorem expect_dma (c : Dev nD) (q : DmaSem sig) : (rd m).expect (cell c (.dma q)) 0 = dmaAmt q := by
  unfold Schedule.expect Schedule.amountOf; rw [duties_dma, Finset.sum_singleton]; rfl

/-- The rest of a semaphore's round, nothing taken yet: the barrier's three payloads, -/
theorem rest_bar (c : Dev nD) : bigSep ((rd m).duties (barCell c) 0 \ ∅) (fun d => (rd m).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton]
  rfl
/-- a transfer's one. -/
theorem rest_dma (c : Dev nD) (q : DmaSem sig) :
    bigSep ((rd m).duties (cell c (.dma q)) 0 \ ∅) (fun d => (rd m).payload (cell c (.dma q)) 0 d) = dmaPay m c q := by
  rw [Finset.sdiff_empty, duties_dma, bigSep_singleton]; rfl

theorem amt_send (k : Fin 14) : dmaAmt (sendS k) = N := if_pos (by have := k.isLt; show k.val < 28; omega)
theorem amt_recv (k : Fin 14) : dmaAmt (recvS k) = N := if_pos (by have := k.isLt; show 14 + k.val < 28; omega)
theorem amt_load0 : dmaAmt (loadS 0) = Nx := rfl
theorem amt_load1 : dmaAmt (loadS 1) = Nw := rfl
theorem amt_out (j : Fin 8) : dmaAmt (outS j) = Ng := by
  unfold dmaAmt
  rw [if_neg (by show ¬ 30 + j.val < 28; omega), if_neg (by show ¬ 30 + j.val = 28; omega), if_neg (by show ¬ 30 + j.val = 29; omega)]

theorem pay_send (k : Fin 14) (c : Dev nD) : dmaPay m c (sendS k) = srcPts m k c := dif_pos k.isLt
theorem pay_recv (k : Fin 14) (c : Dev nD) : dmaPay m c (recvS k) = rPts m k c fullShare := by
  unfold dmaPay
  have h : (recvS k).val - 14 = k.val := by show 14 + k.val - 14 = k.val; omega
  rw [dif_neg (by show ¬ 14 + k.val < 14; omega), dif_pos (by rw [h]; exact k.isLt)]
  congr 1; exact Fin.ext h
theorem pay_load0 (c : Dev nD) : dmaPay m c (loadS 0) = iprop(xPts m c ∗ aPts m c) := rfl
theorem pay_load1 (c : Dev nD) : dmaPay m c (loadS 1) = iprop(wPts m c ∗ bPts m c) := rfl
theorem pay_out (j : Fin 8) (c : Dev nD) : dmaPay m c (outS j) = iprop(vPts m (orig j c) c ∗ gPts m j c) := by
  unfold dmaPay
  have h : (outS j).val - 30 = j.val := by show 30 + j.val - 30 = j.val; omega
  rw [dif_neg (by show ¬ 30 + j.val < 14; omega), dif_neg (by show ¬ 30 + j.val - 14 < 14; omega),
    if_neg (by show ¬ 30 + j.val = 28; omega), if_neg (by show ¬ 30 + j.val = 29; omega), dif_pos (by rw [h]; exact j.isLt)]
  have e : (⟨(outS j).val - 30, by rw [h]; exact j.isLt⟩ : Fin 8) = j := Fin.ext h
  rw [e]

/-! ## What a device owes, and the levels -/

/-- The messages in the order they are sent. -/
def order : List (Fin 14) := [0, 2, 4, 1, 3, 5, 6, 7, 9, 8, 10, 11, 12, 13]

/-- What a device owes while the messages `l` are still to be sent. -/
def owed (c : Dev nD) : List (Fin 14) → CellTallies nD τ sig Unit
  | [] => 0
  | k :: l => owed c l + tallyAt (recvCell k (peer (ax k) c)) () N
/-- What it owes at launch: a unit to each neighbour's barrier and the fourteen messages. -/
def O₀ (c : Dev nD) : CellTallies nD τ sig Unit :=
  owed c order + tallyAt (barCell (peer 2 c)) () 1 + tallyAt (barCell (peer 1 c)) () 1 + tallyAt (barCell (peer 0 c)) () 1

def L (g : GSem nD τ sig) : Finset Unit := if g.1.2 = .tc then {()} else ∅
/-- A semaphore waited on while others are owed stands below them: the barrier below the messages, a message below those
    sent after its arrival. -/
def lvl : SemLoc sig → ℕ
  | .reg _ => 1
  | .dma q => if q.val < 14 then 0 else if q.val < 20 then 2 else if q.val < 26 then 3 else if q.val < 28 then 4 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L (cell c sm) = {()} := if_pos rfl

theorem owed_pos {c : Dev nD} {g : GSem nD τ sig} {u : Unit} : ∀ {l : List (Fin 14)}, 0 < owed c l g u →
    ∃ k ∈ l, g = recvCell k (peer (ax k) c)
  | [], h => absurd h (Nat.lt_irrefl 0)
  | k :: l, h => by
    unfold owed at h
    rw [Pi.add_apply, Finsupp.add_apply, tallyAt_apply] at h
    by_cases hk : g = recvCell k (peer (ax k) c) ∧ u = ()
    · exact ⟨k, List.mem_cons_self, hk.1⟩
    · rw [if_neg hk, Nat.add_zero] at h
      obtain ⟨k', hk', e⟩ := owed_pos h
      exact ⟨k', List.mem_cons_of_mem _ hk', e⟩

/-- A device may wait on a semaphore below every message it still has to send. -/
theorem mayWait (c : Dev nD) (sm : SemLoc sig) (l : List (Fin 14)) (h : ∀ k ∈ l, lvl sm < lvl (.dma (recvS k))) :
    (levAts L lv : sProp 𝕄) ⊢ MayWait (c : Thread nD τ) sm () (owed c l) :=
  MayOwe.of_cut (L := L) (lev := lv) (lvl sm) (fun p hp => by rw [Finset.mem_singleton.mp hp, L_tc]; exact Finset.mem_singleton_self _)
    (fun g u hg => by obtain ⟨k, _, rfl⟩ := owed_pos hg; rw [L_tc]; exact Finset.mem_singleton_self _)
    (fun p hp => by rw [Finset.mem_singleton.mp hp]; exact Nat.le_refl _)
    (fun g u hg => by obtain ⟨k, hk, rfl⟩ := owed_pos hg; exact h k hk)

end Cert.CubeProof

end
-- ==== Proof.Steps.lean ====
/-
# One effect at a time

For each kind of effect of the body one lemma: what the device must hold, and what it holds afterwards. Every lemma takes the
windows, semaphores and neighbours as the program spells them, with an equation to this proof's names.
-/
module

public import proofs.«01_k».proof.Proof.Sched

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

abbrev 𝒱₀ : Variants := Variants.none

variable (m : (ℓ : Loc nD τ sig) → Buf (Elt F) ℓ)

/-- A program run by device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What a device carries -/

/-- What every device may use: the semaphores' invariants, that each is at its round, and the levels. -/
def records (K : Dev nD × SemLoc sig → ℕ) : sProp 𝕄 :=
  iprop((bigSep Finset.univ fun ck : Dev nD × SemLoc sig => cellInv ER (rd m) (K ck) (cell ck.1 ck.2))
    ∗ (bigSep Finset.univ fun ck : Dev nD × SemLoc sig => reached ER (cell ck.1 ck.2) 0) ∗ levAts L lv)

instance records_persistent (K : Dev nD × SemLoc sig → ℕ) : BI.Persistent (records m K) := by unfold records; infer_instance

/-- What a device still owes, whatever it has waited on. -/
def owing (c : Dev nD) (O : CellTallies nD τ sig Unit) : sProp 𝕄 := iprop(∃ W, owes (c : Thread nD τ) O W)
/-- A transfer's semaphore before the transfer, -/
def idle (q : DmaSem sig) (c : Dev nD) : sProp 𝕄 :=
  iprop(atPos ER (cell c (.dma q)) 0 ∅ 0 ∗ dutyTok ER (cell c (.dma q)) 0 0)
/-- while its completion is awaited, -/
def armed (q : DmaSem sig) (c : Dev nD) : sProp 𝕄 :=
  iprop(atPos ER (cell c (.dma q)) 0 ∅ 0 ∗ cred (tallyAt (cell c (.dma q)) () (dmaAmt q)))
/-- and after. -/
def done (q : DmaSem sig) (c : Dev nD) : sProp 𝕄 := semVal (cell c (.dma q)) 0
/-- What pays a message's arrival. -/
def msgTok (k : Fin 14) (c : Dev nD) : sProp 𝕄 := dutyTok ER (recvCell k (peer (ax k) c)) 0 0

/-- A message not sent yet: its send semaphore, and what pays its arrival. -/
abbrev sendKit (k : Fin 14) (c : Dev nD) : sProp 𝕄 := iprop(idle (sendS k) c ∗ msgTok k c)
/-- A block of the result not copied yet: its semaphore, its staging block and its rows. -/
abbrev outKit (j : Fin 8) (c : Dev nD) : sProp 𝕄 := iprop(idle (outS j) c ∗ gAny j c ∗ vAny (orig j c) c)
/-- A message that arrived: both halves of the share of its window, and its semaphore at zero. -/
abbrev got (k : Fin 14) (c : Dev nD) : sProp 𝕄 :=
  iprop(rPts m k c fullShare.left ∗ rPts m k c fullShare.right ∗ done (recvS k) c)

theorem records_inv (K : Dev nD × SemLoc sig → ℕ) (c : Dev nD) (sm : SemLoc sig) :
    records m K ⊢ cellInv ER (rd m) (K (c, sm)) (cell c sm) := by
  have h : (bigSep Finset.univ fun ck : Dev nD × SemLoc sig => (cellInv ER (rd m) (K ck) (cell ck.1 ck.2) : sProp 𝕄))
      ⊢ cellInv ER (rd m) (K (c, sm)) (cell c sm) := bigSep_elim (Finset.mem_univ (c, sm))
  unfold records
  iintro ⟨H, -, -⟩
  iapply h; iexact H
theorem records_reached (K : Dev nD × SemLoc sig → ℕ) (c : Dev nD) (sm : SemLoc sig) :
    records m K ⊢ reached ER (cell c sm) 0 := by
  have h : (bigSep Finset.univ fun ck : Dev nD × SemLoc sig => (reached ER (cell ck.1 ck.2) 0 : sProp 𝕄))
      ⊢ reached ER (cell c sm) 0 := bigSep_elim (Finset.mem_univ (c, sm))
  unfold records
  iintro ⟨-, H, -⟩
  iapply h; iexact H
theorem records_lev (K : Dev nD × SemLoc sig → ℕ) : records m K ⊢ levAts L lv := by
  unfold records; iintro ⟨-, -, H⟩; iexact H

/-! ## Waits -/

/-- A wait on a transfer's semaphore: what the transfer hands over comes with it, and the semaphore stays at zero. -/
theorem step_wait (K : Dev nD × SemLoc sig → ℕ) (c : Dev nD) (q : DmaSem sig) {q' : DmaSem sig} (hq : q' = q)
    (l : List (Fin 14)) (hl : ∀ k ∈ l, lvl (.dma q) < lvl (.dma (recvS k)))
    {P : sProp 𝕄} (hP : dmaPay m c q = P)
    {sp sp' : Space} {s : Shape} {e : EltTy} {src : Memref sig .tc sp s e} {dst : Memref sig .tc sp' s e}
    {hs : src.view.WordExact} {hd : dst.view.WordExact} (hN : dst.view.dmaCredit = dmaAmt q)
    {α : Type} {Q : α → sProp 𝕄} {k : PUnit → Prog (TpuEff nD τ sig (Elt F) Λ₀ .tc) α} :
    records m K
      ⊢ iprop(armed q c -∗ owing c (owed c l) -∗ ((P ∗ done q c ∗ owing c (owed c l)) -∗ WP c (k ⟨⟩) Q) -∗ WP c (.op (.waitDma2 q' src dst hs hd) k) Q) := by
  subst hq hP
  unfold armed owing done
  iintro #HR ⟨Hat, Hc⟩ ⟨%W, HO⟩ Hk
  ihave #HI := (records_inv m K c (.dma q')) $$ HR
  rw [← hN]
  iapply (Rounds.wp_wait_rest_token 𝒱₀ ER (rd m) (c : Thread nD τ) none (κ := K (c, .dma q'))
      (wpE_waitDma2_eq 𝒱₀ (c : Thread nD τ) none Set.univ) (Set.mem_univ _) () (O := owed c l) (W := W) (R := 0) (m := 0) (T := ∅)
      (by rw [Nat.zero_add, expect_dma, hN])) $$ [Hc HO Hat]
  · isplitr; · iexact HI
    isplitl [Hc]; · iexact Hc
    isplitl [HO]; · iexact HO
    isplitr; · iapply (mayWait c (.dma q') l hl); iapply (records_lev m K); iexact HR
    iexact Hat
  iintro ⟨HO, Hat, -, Hpay⟩
  ihave Hp := (Entails.of_eq (rest_dma m c q')) $$ Hpay
  imod (Rounds.cell_close ER (rd m) (Set.mem_univ (K (c, .dma q'))) (fun h => h) (R := 0 + 1) (duties_later m (cell c (.dma q')))) $$ [Hat] with Hz
  · isplitr; · iexact HI
    iexact Hat
  iapply Hk
  isplitl [Hp]; · iexact Hp
  isplitl [Hz]; · iexact Hz
  iexists _; iexact HO

/-- The wait at the barrier, for the three neighbours: each hands over its landing windows along its axis. -/
theorem step_wait_bar (K : Dev nD × SemLoc sig → ℕ) (c : Dev nD) {s' : Sem sig} (hs : s' = barS) {n : ℕ} (hn : n = 3)
    (l : List (Fin 14)) (hl : ∀ k ∈ l, lvl (.reg barS) < lvl (.dma (recvS k)))
    {α : Type} {Q : α → sProp 𝕄} {k : PUnit → Prog (TpuEff nD τ sig (Elt F) Λ₀ .tc) α} :
    records m K
      ⊢ iprop(atPos ER (barCell c) 0 ∅ 0 -∗ cred (tallyAt (barCell c) () 3) -∗ owing c (owed c l) -∗ ((barPay 0 c ∗ barPay 1 c ∗ barPay 2 c ∗ semVal (barCell c) 0 ∗ owing c (owed c l)) -∗ WP c (k ⟨⟩) Q)
          -∗ WP c (.op (.semWait s' n) k) Q) := by
  subst hs hn
  unfold owing
  iintro #HR Hat Hc ⟨%W, HO⟩ Hk
  ihave #HI := (records_inv m K c (.reg barS)) $$ HR
  iapply (Rounds.wp_wait_rest_token 𝒱₀ ER (rd m) (c : Thread nD τ) none (κ := K (c, .reg barS))
      (wpE_semWait_eq 𝒱₀ (c : Thread nD τ) none Set.univ) (Set.mem_univ _) () (O := owed c l) (W := W) (R := 0) (m := 0) (T := ∅)
      (by rw [Nat.zero_add, expect_bar])) $$ [Hc HO Hat]
  · isplitr; · iexact HI
    isplitl [Hc]; · iexact Hc
    isplitl [HO]; · iexact HO
    isplitr; · iapply (mayWait c (.reg barS) l hl); iapply (records_lev m K); iexact HR
    iexact Hat
  iintro ⟨HO, Hat, -, Hpay⟩
  ihave Hp := (Entails.of_eq (rest_bar m c)) $$ Hpay
  imod (Rounds.cell_close ER (rd m) (Set.mem_univ (K (c, .reg barS))) (fun h => h) (R := 0 + 1) (duties_later m (barCell c))) $$ [Hat] with Hz
  · isplitr; · iexact HI
    iexact Hat
  iapply Hk
  icases Hp with ⟨H0, H1, H2⟩
  isplitl [H0]; · iexact H0
  isplitl [H1]; · iexact H1
  isplitl [H2]; · iexact H2
  isplitl [Hz]; · iexact Hz
  iexists _; iexact HO

/-! ## The signal to a neighbour -/

theorem pay_bar (c : Dev nD) (a : Fin 3) : (rd m).payload (barCell c) 0 a = barPay a c := rfl
/-- What a device hands its neighbour along axis `a` is its own landing windows along it. -/
theorem barPay_own (a : Fin 3) (c : Dev nD) :
    (barPay a (peer a c) : sProp 𝕄) = bigSep (Finset.univ.filter fun k => ax k = a) fun k => rAny k c := by
  unfold barPay; rw [peer_peer]

/-- The signal along axis `a`: the neighbour is handed this device's landing windows for the messages along `a`. -/
theorem step_signal (K : Dev nD × SemLoc sig → ℕ) (c : Dev nD) (a : Fin 3) {n : Dev nD} (hn : n = peer a c)
    {s' : Sem sig} (hs : s' = barS) {u : ℕ} (hu : 1 = u) (O : CellTallies nD τ sig Unit)
    {α : Type} {Q : α → sProp 𝕄} {k : PUnit → Prog (TpuEff nD τ sig (Elt F) Λ₀ .tc) α} :
    records m K
      ⊢ iprop(owing c (O + tallyAt (barCell (peer a c)) () 1) -∗ dutyTok ER (barCell (peer a c)) 0 a
          -∗ (bigSep (Finset.univ.filter fun k => ax k = a) fun k => rAny k c) -∗ (owing c O -∗ WP c (k ⟨⟩) Q) -∗ WP c (.op (.semSignal (n : Thread nD τ) s' u) k) Q) := by
  subst hn hs hu
  unfold owing
  iintro #HR ⟨%W, HO⟩ Ht Hp Hk
  iapply (Rounds.wp_signal 𝒱₀ ER (rd m) (c : Thread nD τ) none (dst := (peer a c : Thread nD τ)) (κ := K (peer a c, .reg barS))
      (d := a) (by rw [duties_bar]; exact Finset.mem_univ _) rfl () O rfl) $$ [HO Ht Hp]
  · isplitr; · iapply (records_inv m K (peer a c) (.reg barS)); iexact HR
    isplitl [HO]; · iexact HO
    isplitl [Ht]; · iexact Ht
    isplitl [Hp]
    · ihave Hp' := (Entails.of_eq ((barPay_own a c).symm.trans (pay_bar m (peer a c) a).symm)) $$ Hp
      iexact Hp'
    iapply (records_reached m K (peer a c) (.reg barS)); iexact HR
  iintro HO
  iapply Hk
  iexists _; iexact HO

/-! ## Transfers within a device -/

/-- The target of a transfer within a device. -/
abbrev onSelf {sp : Space} {s : Shape} {e : EltTy} (dst : Memref sig .tc sp s e) : DmaTarget nD τ sig (Proc.tc : Proc τ) sp s e := .here dst

/-- A local transfer: it is awaited on its semaphore, which hands over what `hpay` says. -/
theorem step_copy (K : Dev nD × SemLoc sig → ℕ) (c : Dev nD) (q : DmaSem sig) {q' : DmaSem sig} (hq : q' = q)
    {sp sp' : Space} {s : Shape} {e : EltTy} {src : Memref sig .tc sp s e} {dst : Memref sig .tc sp' s e}
    {hs : src.view.WordExact} {hd : dst.view.WordExact} {ht : DmaTarget.Typed sp (.dma q') (onSelf dst)}
    (hN : dst.view.dmaCredit = dmaAmt q)
    {fs : Buf (Elt F) (src.view.loc (c : Thread nD τ))} {fd : Buf (Elt F) (dst.view.loc (c : Thread nD τ))}
    (hpay : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ dmaPay m c q)
    {α : Type} {Q : α → sProp 𝕄} {k : PUnit → Prog (TpuEff nD τ sig (Elt F) Λ₀ .tc) α} :
    records m K
      ⊢ iprop((src.view.loc (c : Thread nD τ) ↦[src.view.set]{fullShare} fs)
          -∗ (dst.view.loc (c : Thread nD τ) ↦[dst.view.set]{fullShare} fd) -∗ idle q c -∗ (armed q c -∗ WP c (k ⟨⟩) Q) -∗ WP c (.op (.enqueueDma src (onSelf dst) (.dma q') hs hd ht) k) Q) := by
  subst hq
  unfold idle armed
  iintro #HR Hs Hd ⟨Hat, Ht⟩ Hk
  iapply (Rounds.wp_copy_pointsTo 𝒱₀ ER (rd m) (c : Thread nD τ) none (κ := K (c, .dma q')) (r := 0) (d := 0)
    (by rw [duties_dma]; exact Finset.mem_singleton_self _) () (dmaAmt q') ((View.amount_dma _ _).trans hN) rfl hpay) $$ [Hs Hd Ht]
  · isplitr; · iapply (records_inv m K c (.dma q')); iexact HR
    isplitl [Hs]; · iexact Hs
    isplitl [Hd]; · iexact Hd
    isplitl [Ht]; · iexact Ht
    iapply (records_reached m K c (.dma q')); iexact HR
  iintro Hc
  iapply Hk
  isplitl [Hat] <;> iassumption

/-- The loads of the two operands. -/
theorem step_load_x (K : Dev nD × SemLoc sig → ℕ) (c : Dev nD) {q' : DmaSem sig} (hq : q' = loadS 0)
    {hs : aM.view.WordExact} {hd : xM.view.WordExact} {ht : DmaTarget.Typed .hbm (.dma q') (onSelf xM)}
    {α : Type} {Q : α → sProp 𝕄} {k : PUnit → Prog (TpuEff nD τ sig (Elt F) Λ₀ .tc) α} :
    records m K
      ⊢ iprop(aPts m c -∗ (∃ f : Buf (Elt F) ((c : Thread nD τ).loc cc0_scratch0), (c : Thread nD τ).loc cc0_scratch0 ↦{fullShare} f)
          -∗ idle (loadS 0) c -∗ (armed (loadS 0) c -∗ WP c (k ⟨⟩) Q) -∗ WP c (.op (.enqueueDma aM (.here xM) (.dma q') hs hd ht) k) Q) := by
  unfold aPts
  iintro #HR Ha ⟨%f, Hx⟩ Hi
  iapply (step_copy m K c (loadS 0) hq (src := aM) (dst := xM) (fs := X m c) (fd := f) rfl
    (by rw [pay_load0]; unfold xPts aPts; rw [View.set_whole, View.set_whole, View.read_whole, View.write_whole_univ]))
    $$ HR [Ha] [Hx] Hi
  · rw [View.set_whole]; iexact Ha
  · rw [View.set_whole]; iexact Hx

theorem step_load_w (K : Dev nD × SemLoc sig → ℕ) (c : Dev nD) {q' : DmaSem sig} (hq : q' = loadS 1)
    {hs : bM.view.WordExact} {hd : wM.view.WordExact} {ht : DmaTarget.Typed .hbm (.dma q') (onSelf wM)}
    {α : Type} {Q : α → sProp 𝕄} {k : PUnit → Prog (TpuEff nD τ sig (Elt F) Λ₀ .tc) α} :
    records m K
      ⊢ iprop(bPts m c -∗ (∃ f : Buf (Elt F) ((c : Thread nD τ).loc cc0_scratch1), (c : Thread nD τ).loc cc0_scratch1 ↦{fullShare} f)
          -∗ idle (loadS 1) c -∗ (armed (loadS 1) c -∗ WP c (k ⟨⟩) Q) -∗ WP c (.op (.enqueueDma bM (.here wM) (.dma q') hs hd ht) k) Q) := by
  unfold bPts
  iintro #HR Ha ⟨%f, Hx⟩ Hi
  iapply (step_copy m K c (loadS 1) hq (src := bM) (dst := wM) (fs := W m c) (fd := f) rfl
    (by rw [pay_load1]; unfold wPts bPts; rw [View.set_whole, View.set_whole, View.read_whole, View.write_whole_univ]))
    $$ HR [Ha] [Hx] Hi
  · rw [View.set_whole]; iexact Ha
  · rw [View.set_whole]; iexact Hx

/-- The copy of staged block `j` to its rows of the result. -/
theorem step_out (K : Dev nD × SemLoc sig → ℕ) (c : Dev nD) (j : Fin 8) {q' : DmaSem sig} (hq : q' = outS j)
    {src : Memref sig .tc .vmem S128x128 .bf16} (hsrc : src = gW j)
    {off : Fin 2 → ℕ} (hoff : off = ![128 * (orig j c).val, 0]) {hin : ∀ a, off a + S128x128.size a ≤ S1024x128.size a}
    {hs : src.view.WordExact} {hd : (vM.slice (Rect.unit (s := S1024x128) off S128x128.size hin) (fun _ => rfl)).view.WordExact}
    {ht : DmaTarget.Typed .vmem (.dma q')
      (onSelf (vM.slice (Rect.unit (s := S1024x128) off S128x128.size hin) (fun _ => rfl)))}
    {α : Type} {Q : α → sProp 𝕄} {k : PUnit → Prog (TpuEff nD τ sig (Elt F) Λ₀ .tc) α} :
    records m K
      ⊢ iprop(gPts m j c -∗ vAny (orig j c) c -∗ idle (outS j) c -∗ (armed (outS j) c -∗ WP c (k ⟨⟩) Q)
          -∗ WP c (.op (.enqueueDma src (.here (vM.slice (Rect.unit (s := S1024x128) off S128x128.size hin) (fun _ => rfl))) (.dma q') hs hd ht) k) Q) := by
  subst hsrc hoff
  unfold vAny gPts
  iintro #HR Hg ⟨%f, Hv⟩ Hi
  iapply (step_copy m K c (outS j) hq (src := gW j) (dst := vW (orig j c)) (fs := stagedC m c) (fd := f) (by rw [amt_out])
    (by
      rw [pay_out]; unfold vPts gPts
      refine BI.sep_mono (Entails.of_eq (pointsTo_congr fun i hi => ?_)) (BI.Entails.refl _)
      obtain ⟨x, rfl⟩ := (mem_vSet _ _).mp hi
      exact (View.write_emb_of_mem _ _ (Finset.mem_univ x)).trans (res_staged m c j x).symm))
    $$ HR [Hg] [Hv] Hi
  · iexact Hg
  · iexact Hv

/-! ## Messages -/

/-- A share of a landed window is its two halves. -/
theorem rPts_split (k : Fin 14) (c : Dev nD) (q : PosShare TreeShare) : rPts m k c q ⊣⊢ iprop(rPts m k c q.left ∗ rPts m k c q.right) := by
  unfold rPts; exact pointsTo_share (PosShare.mem_left_op_right q)

/-- The wait for a message. -/
theorem step_recv (K : Dev nD × SemLoc sig → ℕ) (c : Dev nD) (k : Fin 14) {q' : DmaSem sig} (hq : q' = recvS k)
    (l : List (Fin 14)) (hl : ∀ i ∈ l, lvl (.dma (recvS k)) < lvl (.dma (recvS i)))
    {sp sp' : Space} {s : Shape} {e : EltTy} {src : Memref sig .tc sp s e} {dst : Memref sig .tc sp' s e}
    {hs : src.view.WordExact} {hd : dst.view.WordExact} (hN : dst.view.dmaCredit = N)
    {α : Type} {Q : α → sProp 𝕄} {κ : PUnit → Prog (TpuEff nD τ sig (Elt F) Λ₀ .tc) α} :
    records m K
      ⊢ iprop(owing c (owed c l) -∗ armed (recvS k) c -∗ ((got m k c ∗ owing c (owed c l)) -∗ WP c (κ ⟨⟩) Q)
          -∗ WP c (.op (.waitDma2 q' src dst hs hd) κ) Q) := by
  iintro #HR HO Hr Hk
  iapply (step_wait m K c (recvS k) hq l hl (pay_recv m k c) (hN.trans (amt_recv k).symm)) $$ HR Hr HO
  iintro ⟨Hp, Hd, HO⟩
  iapply Hk
  ihave Hp' := (rPts_split m k c fullShare).1 $$ Hp
  icases Hp' with ⟨Hl, Hr⟩
  isplitr [HO]
  · isplitl [Hl]; · iexact Hl
    isplitl [Hr] <;> iassumption
  iexact HO

/-- The wait until a message is sent. -/
theorem step_sent (K : Dev nD × SemLoc sig → ℕ) (c : Dev nD) (k : Fin 14) {q' : DmaSem sig} (hq : q' = sendS k)
    {sp sp' : Space} {s : Shape} {e : EltTy} {src : Memref sig .tc sp s e} {dst : Memref sig .tc sp' s e}
    {hs : src.view.WordExact} {hd : dst.view.WordExact} (hN : dst.view.dmaCredit = N)
    {α : Type} {Q : α → sProp 𝕄} {κ : PUnit → Prog (TpuEff nD τ sig (Elt F) Λ₀ .tc) α} :
    records m K
      ⊢ iprop(owing c (owed c []) -∗ armed (sendS k) c -∗ ((srcPts m k c ∗ done (sendS k) c ∗ owing c (owed c [])) -∗ WP c (κ ⟨⟩) Q)
          -∗ WP c (.op (.waitDma2 q' src dst hs hd) κ) Q) := by
  iintro #HR HO Hr Hk
  iapply (step_wait m K c (sendS k) hq [] (by simp) (pay_send m k c) (hN.trans (amt_send k).symm)) $$ HR Hr HO
  iexact Hk

/-- The wait until a block of the result is copied. -/
theorem step_copied (K : Dev nD × SemLoc sig → ℕ) (c : Dev nD) (j : Fin 8) {q' : DmaSem sig} (hq : q' = outS j)
    {sp sp' : Space} {s : Shape} {e : EltTy} {src : Memref sig .tc sp s e} {dst : Memref sig .tc sp' s e}
    {hs : src.view.WordExact} {hd : dst.view.WordExact} (hN : dst.view.dmaCredit = Ng)
    {α : Type} {Q : α → sProp 𝕄} {κ : PUnit → Prog (TpuEff nD τ sig (Elt F) Λ₀ .tc) α} :
    records m K
      ⊢ iprop(owing c (owed c []) -∗ armed (outS j) c
          -∗ (((vPts m (orig j c) c ∗ gPts m j c) ∗ done (outS j) c ∗ owing c (owed c [])) -∗ WP c (κ ⟨⟩) Q)
          -∗ WP c (.op (.waitDma2 q' src dst hs hd) κ) Q) := by
  iintro #HR HO Hr Hk
  iapply (step_wait m K c (outS j) hq [] (by simp) (pay_out m j c) (hN.trans (amt_out j).symm)) $$ HR Hr HO
  iexact Hk

/-- A message, from a window that holds what is to land: the window is lent until the message is sent. -/
theorem step_send (K : Dev nD × SemLoc sig → ℕ) (c : Dev nD) (k : Fin 14) {n : Dev nD} (hn : n = peer (ax k) c)
    {q₁ q₂ : DmaSem sig} (h₁ : q₁ = sendS k) (h₂ : q₂ = recvS k) {sM dM : Memref sig .tc .vmem S64x1024 .bf16}
    {q : PosShare TreeShare} {fs : Buf (Elt F) (sM.view.loc (c : Thread nD τ))}
    (hsrc : (sM.view.loc (c : Thread nD τ) ↦[sM.view.set]{q} fs : sProp 𝕄) = srcPts m k c)
    (hval : ∀ x, landed m (peer (ax k) c) (rE (slot k) (half k) x) = sM.view.read (Elt F) fs x)
    (hdM : dM = rW (slot k) (half k)) (l : List (Fin 14))
    {hsc : (dM : Memref sig (Dev.tc n : Thread nD τ).2.kind .vmem S64x1024 .bf16).view.ref.isScScratch = false}
    {hs : sM.view.WordExact} {hd : dM.view.WordExact}
    {ht : DmaTarget.Typed .vmem (.dma q₂) (.remote (Dev.tc n : Thread nD τ) (dM : Memref sig (Dev.tc n : Thread nD τ).2.kind .vmem S64x1024 .bf16) (.dma q₁) hsc)}
    {α : Type} {Q : α → sProp 𝕄} {κ : PUnit → Prog (TpuEff nD τ sig (Elt F) Λ₀ .tc) α} :
    records m K
      ⊢ iprop(owing c (owed c (k :: l)) -∗ srcPts m k c -∗ rAny k (peer (ax k) c) -∗ sendKit k c -∗ ((armed (sendS k) c ∗ owing c (owed c l)) -∗ WP c (κ ⟨⟩) Q)
          -∗ WP c (.op (.enqueueDma sM (.remote (Dev.tc n : Thread nD τ) dM (.dma q₁) hsc) (.dma q₂) hs hd ht) κ) Q) := by
  subst hn h₁ h₂ hdM
  have hp₁ : (sM.view.loc (c : Thread nD τ) ↦[sM.view.set]{q} fs : sProp 𝕄) ⊢ (rd m).payload (sendCell k c) 0 0 :=
    Entails.of_eq (hsrc.trans (pay_send m k c).symm)
  have hp₂ (fn : Buf (Elt F) ((rW (slot k) (half k)).view.loc (peer (ax k) c : Thread nD τ))) :
      ((rW (slot k) (half k)).view.loc (peer (ax k) c : Thread nD τ) ↦[(rW (slot k) (half k)).view.set]{fullShare}
        ((rW (slot k) (half k)).view.write (Elt F) fn (sM.view.read (Elt F) fs) Finset.univ) : sProp 𝕄)
      ⊢ (rd m).payload (recvCell k (peer (ax k) c)) 0 0 := by
    refine Entails.of_eq (Eq.trans ?_ (pay_recv m k (peer (ax k) c)).symm)
    unfold rPts
    refine pointsTo_congr fun i hi => ?_
    obtain ⟨x, rfl⟩ := (mem_rSet _ _ _).mp hi
    exact (View.write_emb_of_mem _ _ (Finset.mem_univ x)).trans (hval x).symm
  rw [← hsrc]
  unfold rAny owing sendKit idle armed msgTok
  iintro #HR ⟨%W, HO⟩ Hs ⟨%fn, Hd⟩ ⟨⟨Hat, Ht⟩, Hm⟩ Hk
  iapply (Rounds.wp_send_pointsTo 𝒱₀ ER (rd m) (c : Thread nD τ) none (κ₁ := K (c, .dma (sendS k))) (κ₂ := K (peer (ax k) c, .dma (recvS k)))
    (c' := (peer (ax k) c : Thread nD τ)) (sS := .dma (sendS k)) (sem := .dma (recvS k)) (sp' := .vmem)
    (src := sM) (dst := rW (slot k) (half k)) (q := q) (fs := fs)
    (r₁ := 0) (r₂ := 0) (d₁ := 0) (d₂ := 0) (fd := fn)
    (by rw [duties_dma]; exact Finset.mem_singleton_self _) (by rw [duties_dma]; exact Finset.mem_singleton_self _)
    () () N rfl (amt_send k) (amt_recv k) (owed c l) rfl (W := W) hp₁ (hp₂ fn)) $$ [Hs Hd HO Ht Hm]
  · isplitr; · iapply (records_inv m K c (.dma (sendS k))); iexact HR
    isplitr; · iapply (records_inv m K (peer (ax k) c) (.dma (recvS k))); iexact HR
    isplitl [Hs]; · iexact Hs
    isplitl [Hd]; · iexact Hd
    isplitl [HO]; · iexact HO
    isplitl [Ht]; · iexact Ht
    isplitr; · iapply (records_reached m K c (.dma (sendS k))); iexact HR
    isplitl [Hm]; · iexact Hm
    iapply (records_reached m K (peer (ax k) c) (.dma (recvS k))); iexact HR
  iintro ⟨Hc, HO⟩
  iapply Hk
  rw [amt_send k]
  isplitl [Hat Hc]
  · isplitl [Hat] <;> iassumption
  iexists _; iexact HO

/-- A message read at the own block; -/
theorem step_send_own (K : Dev nD × SemLoc sig → ℕ) (c : Dev nD) (k : Fin 14) (hk : src k = none) {n : Dev nD} (hn : n = peer (ax k) c)
    {q₁ q₂ : DmaSem sig} (h₁ : q₁ = sendS k) (h₂ : q₂ = recvS k) {sM dM : Memref sig .tc .vmem S64x1024 .bf16}
    (hsM : sM = oW (half k)) (hdM : dM = rW (slot k) (half k)) (l : List (Fin 14))
    {hsc : (dM : Memref sig (Dev.tc n : Thread nD τ).2.kind .vmem S64x1024 .bf16).view.ref.isScScratch = false}
    {hs : sM.view.WordExact} {hd : dM.view.WordExact}
    {ht : DmaTarget.Typed .vmem (.dma q₂) (.remote (Dev.tc n : Thread nD τ) (dM : Memref sig (Dev.tc n : Thread nD τ).2.kind .vmem S64x1024 .bf16) (.dma q₁) hsc)}
    {α : Type} {Q : α → sProp 𝕄} {κ : PUnit → Prog (TpuEff nD τ sig (Elt F) Λ₀ .tc) α} :
    records m K
      ⊢ iprop(owing c (owed c (k :: l)) -∗ srcPts m k c -∗ rAny k (peer (ax k) c) -∗ sendKit k c -∗ ((armed (sendS k) c ∗ owing c (owed c l)) -∗ WP c (κ ⟨⟩) Q)
          -∗ WP c (.op (.enqueueDma sM (.remote (Dev.tc n : Thread nD τ) dM (.dma q₁) hsc) (.dma q₂) hs hd ht) κ) Q) := by
  subst hsM
  exact step_send m K c k hn h₁ h₂ (sM := oW (half k)) (q := qs k) (fs := ownC m c) (by unfold srcPts; rw [hk]; rfl)
    (fun x => landed_own m k c hk x) hdM l

/-- What a forwarded message is read at. -/
theorem src_fwd (c : Dev nD) (k k' : Fin 14) (hk : src k = some (slot k')) (hh : half k' = half k) {q : PosShare TreeShare} (hq : qs k = q) :
    srcPts m k c = rPts m k' c q := by
  have e : into (slot k') (half k) = k' := by rw [← hh, into_slot]
  unfold srcPts; rw [hk]; show rPts m (into (slot k') (half k)) c (qs k) = _; rw [e, hq]

/-- a message read at the slot it arrived in. -/
theorem step_send_fwd (K : Dev nD × SemLoc sig → ℕ) (c : Dev nD) (k k' : Fin 14) (q : PosShare TreeShare)
    (hk : src k = some (slot k')) (hh : half k' = half k) (hq : qs k = q) {n : Dev nD} (hn : n = peer (ax k) c)
    {q₁ q₂ : DmaSem sig} (h₁ : q₁ = sendS k) (h₂ : q₂ = recvS k) {sM dM : Memref sig .tc .vmem S64x1024 .bf16}
    (hsM : sM = rW (slot k') (half k')) (hdM : dM = rW (slot k) (half k)) (l : List (Fin 14))
    {hsc : (dM : Memref sig (Dev.tc n : Thread nD τ).2.kind .vmem S64x1024 .bf16).view.ref.isScScratch = false}
    {hs : sM.view.WordExact} {hd : dM.view.WordExact}
    {ht : DmaTarget.Typed .vmem (.dma q₂) (.remote (Dev.tc n : Thread nD τ) (dM : Memref sig (Dev.tc n : Thread nD τ).2.kind .vmem S64x1024 .bf16) (.dma q₁) hsc)}
    {α : Type} {Q : α → sProp 𝕄} {κ : PUnit → Prog (TpuEff nD τ sig (Elt F) Λ₀ .tc) α} :
    records m K
      ⊢ iprop(owing c (owed c (k :: l)) -∗ rPts m k' c q -∗ rAny k (peer (ax k) c) -∗ sendKit k c -∗ ((armed (sendS k) c ∗ owing c (owed c l)) -∗ WP c (κ ⟨⟩) Q)
          -∗ WP c (.op (.enqueueDma sM (.remote (Dev.tc n : Thread nD τ) dM (.dma q₁) hsc) (.dma q₂) hs hd ht) κ) Q) := by
  subst hsM
  rw [← src_fwd m c k k' hk hh hq]
  exact step_send m K c k hn h₁ h₂ (sM := rW (slot k') (half k')) (q := q) (fs := landed m c) (src_fwd m c k k' hk hh hq).symm
    (fun x => by rw [hh]; exact landed_fwd m k c (slot k') hk x) hdM l

/-- The end of a stretch. -/
theorem step_ret (c : Dev nD) {α : Type} {Q : α → sProp 𝕄} (a : α) : Q a ⊢ WP c (.ret a) Q := by
  iintro H; rw [WP, wp_ret]; imodintro; iexact H

/-! ## Loads and stores -/

/-- What a load of slot `s` yields once its block has landed. -/
def slotv (c : Dev nD) (s : Fin 7) : Vec F S1x128x1024 .bf16 := rM.view.readAt (Elt F) (rS s).toLoadRect (landed m c)

/-- The load of a whole slot, both its messages arrived: any share of them will do. -/
theorem step_slot (c : Dev nD) (s : Fin 7) (k₀ k₁ : Fin 14) (h₀ : into s 0 = k₀) (h₁ : into s 1 = k₁)
    (q : PosShare TreeShare) {b : Fin 3 → ℕ} (hb : b = ![s.val, 0, 0])
    {hin : ∀ a, b a + S1x128x1024.size a ≤ S7x128x1024.size a}
    {hl : rM.view.LoadsAt (Rect.unit (s := S7x128x1024) b S1x128x1024.size hin).toLoadRect}
    {α : Type} {Q : α → sProp 𝕄} {κ : Vec F S1x128x1024 .bf16 → Prog (TpuEff nD τ sig (Elt F) Λ₀ .tc) α} :
    rPts m k₀ c q
      ⊢ iprop(rPts m k₁ c q -∗ ((rPts m k₀ c q ∗ rPts m k₁ c q)
            -∗ WP c (κ (slotv m c s)) Q)
          -∗ WP c (.op (.load rM (Rect.unit (s := S7x128x1024) b S1x128x1024.size hin).toLoadRect hl) κ) Q) := by
  subst hb h₀ h₁
  have e0 : kSet (into s 0) = rSet s 0 := by unfold kSet; rw [slot_into, half_into]
  have e1 : kSet (into s 1) = rSet s 1 := by unfold kSet; rw [slot_into, half_into]
  have hd : Disjoint (rSet s 0) (rSet s 1) := by
    rw [← e0, ← e1]; exact kSet_disjoint _ _ fun h => absurd (congrArg half h) (by rw [half_into, half_into]; decide)
  have hu : iprop(rPts m (into s 0) c q ∗ rPts m (into s 1) c q)
      ⊣⊢ ((c : Thread nD τ).loc cc0_scratch3 ↦[rSet s 0 ∪ rSet s 1]{q} landed m c : sProp 𝕄) := by
    unfold rPts; rw [e0, e1]; exact ⟨(pointsTo_union hd).2, (pointsTo_union hd).1⟩
  iintro H0 H1 Hk
  ihave H' := hu.1 $$ [H0 H1]
  · isplitl [H0] <;> iassumption
  iapply (wp_load_rect 𝒱₀ (c : Thread nD τ) none Set.univ (m := rM) (r := rS s) (S := rSet s 0 ∪ rSet s 1)
    (show sSet s ⊆ _ by rw [sSet_eq])) $$ H'
  iintro H'
  iapply Hk
  iapply hu.2; iexact H'

/-- The product with a loaded slot is the block of the device the slot came from. -/
theorem blk_slot (c : Dev nD) (s : Fin 7) :
    k0_pay3 (w16 m c) (shapeCast S128x1024 (rM.view.readAt (Elt F) (rS s).toLoadRect (landed m c)) shapeCasts_S1x128x1024_S128x1024)
      = blkC m c (org s c) := by
  rw [slot_val]; rfl

/-- The load of a block about to be overwritten: nothing is said of what it yields. -/
theorem step_gload (c : Dev nD) (j : Fin 8) {b : Fin 3 → ℕ} (hb : b = ![j.val, 0, 0])
    {hin : ∀ a, b a + S1x128x128.size a ≤ S8x128x128.size a}
    {hl : gM.view.LoadsAt (Rect.unit (s := S8x128x128) b S1x128x128.size hin).toLoadRect}
    {α : Type} {Q : α → sProp 𝕄} {κ : Vec F S1x128x128 .bf16 → Prog (TpuEff nD τ sig (Elt F) Λ₀ .tc) α} :
    gAny j c ⊢ iprop((∀ v, gAny j c -∗ WP c (κ v) Q)
          -∗ WP c (.op (.load gM (Rect.unit (s := S8x128x128) b S1x128x128.size hin).toLoadRect hl) κ) Q) := by
  subst hb
  unfold gAny
  iintro ⟨%f, H⟩ Hk
  iapply (wp_load_rect 𝒱₀ (c : Thread nD τ) none Set.univ (m := gM) (r := gR j) (S := gSet j) (by rw [gR_set])) $$ H
  iintro H
  iapply Hk
  iexists f; iexact H

/-- What a store of a block leaves. -/
theorem stored (c : Dev nD) (j : Fin 8) (f : Vec F S8x128x128 .bf16) (i : S8x128x128.Idx) (hi : i ∈ gSet j) :
    (gM.access (gR j) : View sig .tc _ _ _).write (Elt F) f (blkC m c (orig j c)) Finset.univ i = stagedC m c i := by
  have hi' : i ∈ (gM.access (gR j) : View sig .tc _ _ _).set := by rw [gR_set]; exact hi
  obtain ⟨x, -, e⟩ := Finset.mem_map.mp hi'
  obtain ⟨z, a, b, rfl⟩ := exists_ix3 (n0 := 1) (n1 := 128) (n2 := 128) x
  have e' : i = ix3 j a b := by
    rw [← e]; funext d
    match d with
    | ⟨0, _⟩ => exact Fin.ext (by show j.val + 1 * z.val = j.val; omega)
    | ⟨1, _⟩ => exact Fin.ext (by show 0 + 1 * a.val = a.val; omega)
    | ⟨2, _⟩ => exact Fin.ext (by show 0 + 1 * b.val = b.val; omega)
  have hz : z = ⟨0, Nat.one_pos⟩ := Fin.ext (by omega)
  have e2 : stagedC m c i = blkC m c (orig j c) (ix3 z a b) := by rw [e', hz]; rfl
  rw [e2, ← e]
  generalize blkC m c (orig j c) = w
  exact View.write_emb_of_mem _ _ (Finset.mem_univ _)

/-- The store of a staged block. -/
theorem step_gstore (c : Dev nD) (j : Fin 8) {b : Fin 3 → ℕ} (hb : b = ![j.val, 0, 0])
    {hin : ∀ a, b a + S1x128x128.size a ≤ S8x128x128.size a} {w : FVec F S1x128x128 .bf16} (hw : w = blkC m c (orig j c))
    {hx : (gM.access (Rect.unit (s := S8x128x128) b S1x128x128.size hin) : View sig .tc _ _ _).Stores Finset.univ}
    {hm : (Finset.univ : Finset S1x128x128.Idx) = Finset.univ ∨ ∀ a, (Rect.unit (s := S8x128x128) b S1x128x128.size hin).stride a = 1}
    {α : Type} {Q : α → sProp 𝕄} {κ : PUnit → Prog (TpuEff nD τ sig (Elt F) Λ₀ .tc) α} :
    gAny j c ⊢ iprop((gPts m j c -∗ WP c (κ ⟨⟩) Q)
          -∗ WP c (.op (.store gM (Rect.unit (s := S8x128x128) b S1x128x128.size hin) w Finset.univ hx hm) κ) Q) := by
  subst hb hw
  unfold gAny gPts
  iintro ⟨%f, H⟩ Hk
  iapply (wp_store 𝒱₀ (c : Thread nD τ) none Set.univ (m := gM) (r := gR j) (S := gSet j) (Mk := Finset.univ)
    (by rw [View.setOn_univ, gR_set])) $$ H
  iintro H
  iapply Hk
  ihave H' := (Entails.of_eq (pointsTo_congr fun i hi => stored m c j f i hi)) $$ H
  iexact H'

end Cert.CubeProof

end
-- ==== Proof.Parts.lean ====
/-
# The body, a stretch at a time

The printed body is a sequence of stretches. For each one lemma: from the semaphores and pieces of memory it uses to what it
leaves of them.
-/
module

public import proofs.«01_k».proof.Proof.Steps
public import Idealize.ShloMosaic.Lib.Ring

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)
variable (ha : aM.IsWhole) (hb : bM.IsWhole) (hv : vM.IsWhole) (hx : xM.IsWhole) (hw : wM.IsWhole) (ho : oM.IsWhole)
  (hr : rM.IsWhole) (hg : gM.IsWhole)

/-! ## Whole buffers -/

omit [FloatOps F] in
theorem hz : (![0, 0] : Fin 2 → Nat) = fun _ => 0 := funext fun a => by fin_cases a <;> rfl

/-- The whole of a 128-row buffer; -/
abbrev r0 : Rect S128x1024 := Rect.unit (s := S128x1024) ![0, 0] S128x1024.size inb_S128x1024_S128x1024_0_0
/-- of the matrix of 1024 rows. -/
abbrev r1 : Rect S1024x128 := Rect.unit (s := S1024x128) ![0, 0] S1024x128.size inb_S1024x128_S1024x128_0_0

omit [FloatOps F] in
theorem read_x (f : Vec F S128x1024 .f32) : (xM : Memref sig .tc .vmem S128x1024 .f32).view.readAt (Elt F) r0.toLoadRect f = f :=
  Memref.readAt_unit_zero (Elt F) cc0_scratch0 hz _ f
omit [FloatOps F] in
theorem read_w (f : Vec F S1024x128 .f32) : (wM : Memref sig .tc .vmem S1024x128 .f32).view.readAt (Elt F) r1.toLoadRect f = f :=
  Memref.readAt_unit_zero (Elt F) cc0_scratch1 hz _ f
omit [FloatOps F] in
theorem read_o (f : Vec F S128x1024 .bf16) : (oM : Memref sig .tc .vmem S128x1024 .bf16).view.readAt (Elt F) r0.toLoadRect f = f :=
  Memref.readAt_unit_zero (Elt F) cc0_scratch2 hz _ f
omit [FloatOps F] in
theorem write_o (f w : Vec F S128x1024 .bf16) :
    ((oM : Memref sig .tc .vmem S128x1024 .bf16).access r0 : View sig .tc _ _ _).write (Elt F) f w Finset.univ = w :=
  Memref.write_access_unit_zero_univ (Elt F) cc0_scratch2 hz _ f w

/-- The device's own rounded rows, the share kept for its own product. -/
def oL : sProp 𝕄 := (c : Thread nD τ).loc cc0_scratch2 ↦{fullShare.left} ownC m c

/-- Half a block, read by three messages at once. -/
theorem oPts_three (h : Fin 2) :
    oPts m h c fullShare.right
      ⊣⊢ iprop(oPts m h c fullShare.right.left ∗ oPts m h c fullShare.right.right.left ∗ oPts m h c fullShare.right.right.right) := by
  unfold oPts
  constructor
  · iintro H
    ihave H' := (pointsTo_share (PosShare.mem_left_op_right fullShare.right)).1 $$ H
    icases H' with ⟨A, B⟩
    ihave B' := (pointsTo_share (PosShare.mem_left_op_right fullShare.right.right)).1 $$ B
    icases B' with ⟨B, C⟩
    iframe A B C
  · iintro ⟨A, B, C⟩
    ihave B' := (pointsTo_share (PosShare.mem_left_op_right fullShare.right.right)).2 $$ [B C]
    · iframe B C
    iapply (pointsTo_share (PosShare.mem_left_op_right fullShare.right)).2
    iframe A B'

/-- The two halves of the own block. -/
theorem own_halves (q : PosShare TreeShare) :
    ((c : Thread nD τ).loc cc0_scratch2 ↦{q} ownC m c : sProp 𝕄) = iprop(oPts m 0 c q ∗ oPts m 1 c q) := by
  rw [Ring.pointsTo_blocks oSet oW_disjoint oW_cover, bigSep_univ_eq_bigSepL [0, 1] (by decide) (by decide), bigSepL_cons_cons, bigSepL_singleton]
  rfl

/-- Where the pieces are, and at which shares. -/
theorem own_pieces :
    iprop(oL m c ∗ srcPts m 0 c ∗ srcPts m 2 c ∗ srcPts m 4 c ∗ srcPts m 1 c ∗ srcPts m 3 c ∗ srcPts m 5 c)
      = iprop(((c : Thread nD τ).loc cc0_scratch2 ↦{fullShare.left} ownC m c) ∗ oPts m 0 c fullShare.right.left ∗ oPts m 1 c fullShare.right.right.left
          ∗ oPts m 0 c fullShare.right.right.right ∗ oPts m 1 c fullShare.right.left ∗ oPts m 0 c fullShare.right.right.left
          ∗ oPts m 1 c fullShare.right.right.right) := rfl

/-- The own block, shared out: a share to multiply, and a piece for each of the six messages read at it. -/
theorem own_split :
    ((c : Thread nD τ).loc cc0_scratch2 ↦{fullShare} ownC m c : sProp 𝕄)
      ⊣⊢ iprop(oL m c ∗ srcPts m 0 c ∗ srcPts m 2 c ∗ srcPts m 4 c ∗ srcPts m 1 c ∗ srcPts m 3 c ∗ srcPts m 5 c) := by
  rw [own_pieces]
  constructor
  · iintro H
    ihave H' := (pointsTo_share (PosShare.mem_left_op_right fullShare)).1 $$ H
    icases H' with ⟨HL, HR⟩
    ihave HR' := (Entails.of_eq (own_halves m c fullShare.right)) $$ HR
    icases HR' with ⟨H0, H1⟩
    ihave H0' := (oPts_three m c 0).1 $$ H0
    ihave H1' := (oPts_three m c 1).1 $$ H1
    icases H0' with ⟨A0, A3, A4⟩
    icases H1' with ⟨A1, A2, A5⟩
    isplitl [HL]; · iexact HL
    isplitl [A0]; · iexact A0
    isplitl [A2]; · iexact A2
    isplitl [A4]; · iexact A4
    isplitl [A1]; · iexact A1
    isplitl [A3]; · iexact A3
    iexact A5
  · iintro ⟨HL, A0, A2, A4, A1, A3, A5⟩
    iapply (pointsTo_share (PosShare.mem_left_op_right fullShare)).2
    isplitl [HL]; · iexact HL
    iapply (Entails.of_eq (own_halves m c fullShare.right).symm)
    isplitl [A0 A3 A4]
    · iapply (oPts_three m c 0).2
      isplitl [A0]; · iexact A0
      isplitl [A3]; · iexact A3
      iexact A4
    · iapply (oPts_three m c 1).2
      isplitl [A1]; · iexact A1
      isplitl [A2]; · iexact A2
      iexact A5

/-- What the three neighbours' signals bring: the half slots this device's messages land in. -/
theorem bar_dests :
    iprop(barPay (F := F) 0 c ∗ barPay 1 c ∗ barPay 2 c)
      = iprop((rAny 0 (peer (ax 0) c) ∗ rAny 1 (peer (ax 1) c) ∗ rAny 10 (peer (ax 10) c) ∗ rAny 11 (peer (ax 11) c) ∗ rAny 12 (peer (ax 12) c))
          ∗ (rAny 2 (peer (ax 2) c) ∗ rAny 3 (peer (ax 3) c) ∗ rAny 6 (peer (ax 6) c) ∗ rAny 7 (peer (ax 7) c))
          ∗ (rAny 4 (peer (ax 4) c) ∗ rAny 5 (peer (ax 5) c) ∗ rAny 8 (peer (ax 8) c) ∗ rAny 9 (peer (ax 9) c) ∗ rAny 13 (peer (ax 13) c))) := by
  unfold barPay
  rw [bigSep_eq_bigSepL_of_eq [0, 1, 10, 11, 12] (by decide) (by decide), bigSep_eq_bigSepL_of_eq [2, 3, 6, 7] (by decide) (by decide),
    bigSep_eq_bigSepL_of_eq [4, 5, 8, 9, 13] (by decide) (by decide)]
  rfl

/-! ## The stretches -/

/-- The operands are fetched, the three neighbours told that this device's slots may be written, the rows awaited. -/
theorem part3 (v19 v46 v50 v56 v62 v68 v77 v78 : BitVec 32) {Q : (Σ' (_ : BitVec 32) (_ : BitVec 32) (_ : BitVec 32), Sems sig S_) → sProp 𝕄} :
    records m K
      ⊢ iprop(owing c (O₀ c) -∗ aPts m c -∗ (∃ f : Buf (Elt F) ((c : Thread nD τ).loc cc0_scratch0), (c : Thread nD τ).loc cc0_scratch0 ↦{fullShare} f)
          -∗ idle (loadS 0) c -∗ bPts m c -∗ (∃ f : Buf (Elt F) ((c : Thread nD τ).loc cc0_scratch1), (c : Thread nD τ).loc cc0_scratch1 ↦{fullShare} f)
          -∗ idle (loadS 1) c
          -∗ dutyTok ER (barCell (peer 0 c)) 0 0 -∗ (bigSep (Finset.univ.filter fun k => ax k = 0) fun k => rAny k c)
          -∗ dutyTok ER (barCell (peer 1 c)) 0 1 -∗ (bigSep (Finset.univ.filter fun k => ax k = 1) fun k => rAny k c)
          -∗ dutyTok ER (barCell (peer 2 c)) 0 2 -∗ (bigSep (Finset.univ.filter fun k => ax k = 2) fun k => rAny k c)
          -∗ (∀ v83 v90 v97, (owing c (owed c order) ∗ xPts m c ∗ aPts m c ∗ done (loadS 0) c ∗ armed (loadS 1) c)
                -∗ Q ⟨v83, v90, v97, SemArray.scalar (sig.barrier 0 rfl)⟩)
          -∗ WP c (k0_part3 aM ha bM hb vM hv xM hx wM hw oM ho rM hr gM hg
            cc0_scratch5 cc0_scratch6 cc0_scratch7 cc0_scratch8 c v19 v46 v50 v56 v62 v68 v77 v78) Q) := by
  rw [k0_part3_eq_skeleton]; unfold k0_part3_skel
  simp only [Prog.lift, Prog.bind_op, Prog.bind_ret, Prog.pure_eq_ret, semSignalWord]
  unfold O₀
  iintro #HR HO Ha Hx Ix Hb Hw Iw T0 D0 T1 D1 T2 D2 Hk
  iapply (step_load_x m K c (by rfl)) $$ HR Ha Hx Ix
  iintro Ax
  iapply (step_load_w m K c (by rfl)) $$ HR Hb Hw Iw
  iintro Aw
  iapply (step_signal m K c 0 (dev1_eq c) (by rfl) (by rfl) _) $$ HR HO T0 D0
  iintro HO
  iapply (step_signal m K c 1 (dev2_eq c) (by rfl) (by rfl) _) $$ HR HO T1 D1
  iintro HO
  iapply (step_signal m K c 2 (dev3_eq c) (by rfl) (by rfl) _) $$ HR HO T2 D2
  iintro HO
  iapply (step_wait m K c (loadS 0) (by rfl) order (by decide) (pay_load0 m c) (by rfl)) $$ HR Ax HO
  iintro ⟨⟨Hx, Ha⟩, Z, HO⟩
  iapply (step_ret c)
  iapply Hk
  iframe HO Hx Ha Z Aw

/-- The rows are rounded into the own block, the columns awaited, and the first two messages sent once the
    neighbours are ready. -/
theorem part4 (v56 v62 : BitVec 32) {Q : FVec F S1024x128 .bf16 → sProp 𝕄} :
    records m K
      ⊢ iprop(owing c (owed c order) -∗ xPts m c -∗ (∃ f : Buf (Elt F) ((c : Thread nD τ).loc cc0_scratch2), (c : Thread nD τ).loc cc0_scratch2 ↦{fullShare} f)
          -∗ armed (loadS 1) c -∗ atPos ER (barCell c) 0 ∅ 0 -∗ cred (tallyAt (barCell c) () 3) -∗ sendKit 0 c -∗ sendKit 2 c
          -∗ ((owing c (owed c [4, 1, 3, 5, 6, 7, 9, 8, 10, 11, 12, 13]) ∗ (xPts m c ∗ wPts m c ∗ bPts m c)
                ∗ (done (loadS 1) c ∗ semVal (barCell c) 0) ∗ (oL m c ∗ srcPts m 4 c ∗ srcPts m 1 c ∗ srcPts m 3 c ∗ srcPts m 5 c)
                ∗ (armed (sendS 0) c ∗ armed (sendS 2) c)
                ∗ (rAny 1 (peer (ax 1) c) ∗ rAny 3 (peer (ax 3) c) ∗ rAny 4 (peer (ax 4) c) ∗ rAny 5 (peer (ax 5) c))
                ∗ (rAny 6 (peer (ax 6) c) ∗ rAny 7 (peer (ax 7) c) ∗ rAny 8 (peer (ax 8) c) ∗ rAny 9 (peer (ax 9) c))
                ∗ (rAny 10 (peer (ax 10) c) ∗ rAny 11 (peer (ax 11) c) ∗ rAny 12 (peer (ax 12) c) ∗ rAny 13 (peer (ax 13) c)))
              -∗ Q (w16 m c))
          -∗ WP c (k0_part4 aM ha bM hb vM hv xM hx wM hw oM ho rM hr gM hg
            cc0_scratch5 cc0_scratch6 cc0_scratch7 cc0_scratch8 c v56 v62 (SemArray.scalar (sig.barrier 0 rfl))) Q) := by
  rw [k0_part4_eq_skeleton]; unfold k0_part4_skel
  simp only [Prog.lift, Prog.bind_op, Prog.bind_ret, Prog.pure_eq_ret, semWaitWord]
  unfold xPts order
  iintro #HR HO Hx ⟨%f, Ho⟩ Aw At Cr S0 S2 Hk
  iapply (wp_load 𝒱₀ (c : Thread nD τ) none Set.univ (m := xM) (Finset.subset_univ _)) $$ Hx; iintro Hx; rw [read_x]
  iapply (wp_load 𝒱₀ (c : Thread nD τ) none Set.univ (m := oM) (Finset.subset_univ _)) $$ Ho; iintro Ho
  iapply (wp_store 𝒱₀ (c : Thread nD τ) none Set.univ (m := oM) (r := r0) (Mk := Finset.univ) (Finset.subset_univ _)) $$ Ho
  iintro Ho; rw [write_o]
  ihave Ho' := (own_split m c).1 $$ [Ho]
  · iexact Ho
  icases Ho' with ⟨OL, P0, P2, P4, P1, P3, P5⟩
  iapply (step_wait m K c (loadS 1) (by rfl) [0, 2, 4, 1, 3, 5, 6, 7, 9, 8, 10, 11, 12, 13] (by decide) (pay_load1 m c) (by rfl)) $$ HR Aw HO
  iintro ⟨⟨Hw, Hb⟩, Zw, HO⟩
  unfold wPts
  iapply (wp_load 𝒱₀ (c : Thread nD τ) none Set.univ (m := wM) (Finset.subset_univ _)) $$ Hw; iintro Hw; rw [read_w]
  iapply (step_wait_bar m K c (by rfl) (by rfl) [0, 2, 4, 1, 3, 5, 6, 7, 9, 8, 10, 11, 12, 13] (by decide)) $$ HR At Cr HO
  iintro ⟨B0, B1, B2, Zb, HO⟩
  ihave HD := (Entails.of_eq (bar_dests (F := F) c)) $$ [B0 B1 B2]
  · iframe B0 B1 B2
  icases HD with ⟨⟨D0, D1, D10, D11, D12⟩, ⟨D2, D3, D6, D7⟩, D4, D5, D8, D9, D13⟩
  iapply (step_send_own m K c 0 rfl (dev4_eq c) (by rfl) (by rfl) (by rfl) (by rfl) [2, 4, 1, 3, 5, 6, 7, 9, 8, 10, 11, 12, 13]) $$ HR HO P0 D0 S0
  iintro ⟨A0, HO⟩
  iapply (step_send_own m K c 2 rfl (dev5_eq c) (by rfl) (by rfl) (by rfl) (by rfl) [4, 1, 3, 5, 6, 7, 9, 8, 10, 11, 12, 13]) $$ HR HO P2 D2 S2
  iintro ⟨A2, HO⟩
  iapply (step_ret c)
  rw [show k0_pay2 (W m c) = w16 m c from rfl]
  iapply Hk
  iframe HO Hx Hw Hb Zw Zb OL P4 P1 P3 P5 A0 A2 D1 D3 D4 D5 D6 D7 D8 D9 D10 D11 D12 D13

/-- Three more messages of the own block. -/
theorem part5 (v56 v62 v68 : BitVec 32) {Q : BitVec 32 → sProp 𝕄} :
    records m K
      ⊢ iprop(owing c (owed c [4, 1, 3, 5, 6, 7, 9, 8, 10, 11, 12, 13]) -∗ srcPts m 4 c -∗ rAny 4 (peer (ax 4) c) -∗ sendKit 4 c
          -∗ srcPts m 1 c -∗ rAny 1 (peer (ax 1) c) -∗ sendKit 1 c -∗ srcPts m 3 c -∗ rAny 3 (peer (ax 3) c) -∗ sendKit 3 c
          -∗ ((owing c (owed c [5, 6, 7, 9, 8, 10, 11, 12, 13]) ∗ armed (sendS 4) c ∗ armed (sendS 1) c ∗ armed (sendS 3) c) -∗ Q 1#32)
          -∗ WP c (k0_part5 aM ha bM hb vM hv xM hx wM hw oM ho rM hr gM hg
            cc0_scratch5 cc0_scratch6 cc0_scratch7 cc0_scratch8 c v56 v62 v68) Q) := by
  rw [k0_part5_eq_skeleton]; unfold k0_part5_skel
  simp only [Prog.lift, Prog.bind_op, Prog.bind_ret, Prog.pure_eq_ret]
  iintro #HR HO P4 D4 S4 P1 D1 S1 P3 D3 S3 Hk
  iapply (step_send_own m K c 4 rfl (dev6_eq c) (by rfl) (by rfl) (by rfl) (by rfl) [1, 3, 5, 6, 7, 9, 8, 10, 11, 12, 13]) $$ HR HO P4 D4 S4
  iintro ⟨A4, HO⟩
  iapply (step_send_own m K c 1 rfl (dev7_eq c) (by rfl) (by rfl) (by rfl) (by rfl) [3, 5, 6, 7, 9, 8, 10, 11, 12, 13]) $$ HR HO P1 D1 S1
  iintro ⟨A1, HO⟩
  iapply (step_send_own m K c 3 rfl (dev8_eq c) (by rfl) (by rfl) (by rfl) (by rfl) [5, 6, 7, 9, 8, 10, 11, 12, 13]) $$ HR HO P3 D3 S3
  iintro ⟨A3, HO⟩
  iapply (step_ret c)
  iapply Hk
  iframe HO A4 A1 A3

/-- The last message of the own block, and the own block's product, copied out. -/
theorem part6 (v2 v68 b : BitVec 32) {Q : PUnit → sProp 𝕄} :
    records m K
      ⊢ iprop(owing c (owed c [5, 6, 7, 9, 8, 10, 11, 12, 13]) -∗ srcPts m 5 c -∗ rAny 5 (peer (ax 5) c) -∗ sendKit 5 c
          -∗ oL m c -∗ outKit 0 c
          -∗ ((owing c (owed c [6, 7, 9, 8, 10, 11, 12, 13]) ∗ armed (sendS 5) c ∗ oL m c ∗ armed (outS 0) c) -∗ Q ⟨⟩)
          -∗ WP c (k0_part6 aM ha bM hb vM hv xM hx wM hw oM ho rM hr gM hg
            cc0_scratch5 cc0_scratch6 cc0_scratch7 cc0_scratch8 c v2 v68 (w16 m c) b) Q) := by
  rw [k0_part6_eq_skeleton]; unfold k0_part6_skel
  simp only [Prog.lift, Prog.bind_op, Prog.bind_ret, Prog.pure_eq_ret]
  unfold oL
  iintro #HR HO P5 D5 S5 OL ⟨I0, Hg, Hv⟩ Hk
  iapply (step_send_own m K c 5 rfl (dev9_eq c) (by rfl) (by rfl) (by rfl) (by rfl) [6, 7, 9, 8, 10, 11, 12, 13]) $$ HR HO P5 D5 S5
  iintro ⟨A5, HO⟩
  iapply (wp_load 𝒱₀ (c : Thread nD τ) none Set.univ (m := oM) (Finset.subset_univ _)) $$ OL; iintro OL; rw [read_o]
  iapply (step_gload c 0 (by rfl)) $$ Hg
  iintro %v Hg
  iapply (step_gstore m c 0 (by rfl) (by rfl)) $$ Hg
  iintro Hg
  iapply (step_out m K c 0 (by rfl) (by rfl) (off1_eq c)) $$ HR Hg Hv I0
  iintro A0
  iapply (step_ret c)
  iapply Hk
  iframe HO A5 OL A0

/-- Message 4 lands and is sent on; message 0 lands. -/
theorem part7 (v2 v62 : BitVec 32) {Q : PUnit → sProp 𝕄} :
    records m K
      ⊢ iprop(owing c (owed c [6, 7, 9, 8, 10, 11, 12, 13]) -∗ armed (recvS 4) c -∗ sendKit 6 c -∗ rAny 6 (peer (ax 6) c) -∗ armed (recvS 0) c
          -∗ ((owing c (owed c [7, 9, 8, 10, 11, 12, 13]) ∗ rPts m 4 c fullShare.left ∗ done (recvS 4) c ∗ armed (sendS 6) c ∗ got m 0 c) -∗ Q ⟨⟩)
          -∗ WP c (k0_part7 aM ha bM hb vM hv xM hx wM hw oM ho rM hr gM hg
            cc0_scratch5 cc0_scratch6 cc0_scratch7 cc0_scratch8 c v2 v62) Q) := by
  rw [k0_part7_eq_skeleton]; unfold k0_part7_skel
  simp only [Prog.lift, Prog.bind_op, Prog.bind_ret, Prog.pure_eq_ret]
  iintro #HR HO R4 S6 D6 R0 Hk
  iapply (step_recv m K c 4 (by rfl) [6, 7, 9, 8, 10, 11, 12, 13] (by decide) (by rfl)) $$ HR HO R4
  iintro ⟨⟨L4, B4, Z4⟩, HO⟩
  iapply (step_send_fwd m K c 6 4 fullShare.right rfl rfl rfl (dev10_eq c) (by rfl) (by rfl) (by rfl) (by rfl) [7, 9, 8, 10, 11, 12, 13]) $$ HR HO B4 D6 S6
  iintro ⟨A6, HO⟩
  iapply (step_recv m K c 0 (by rfl) [7, 9, 8, 10, 11, 12, 13] (by decide) (by rfl)) $$ HR HO R0
  iintro ⟨G0, HO⟩
  iapply (step_ret c)
  iapply Hk
  iframe HO L4 Z4 A6 G0

/-- Message 0 is sent on twice; message 2 lands. -/
theorem part8 (v2 v62 v68 : BitVec 32) {Q : PUnit → sProp 𝕄} :
    records m K
      ⊢ iprop(owing c (owed c [7, 9, 8, 10, 11, 12, 13]) -∗ got m 0 c -∗ sendKit 7 c -∗ rAny 7 (peer (ax 7) c)
          -∗ sendKit 9 c -∗ rAny 9 (peer (ax 9) c) -∗ armed (recvS 2) c
          -∗ ((owing c (owed c [8, 10, 11, 12, 13]) ∗ rPts m 0 c fullShare.left ∗ done (recvS 0) c ∗ armed (sendS 7) c ∗ armed (sendS 9) c ∗ got m 2 c) -∗ Q ⟨⟩)
          -∗ WP c (k0_part8 aM ha bM hb vM hv xM hx wM hw oM ho rM hr gM hg
            cc0_scratch5 cc0_scratch6 cc0_scratch7 cc0_scratch8 c v2 v62 v68) Q) := by
  rw [k0_part8_eq_skeleton]; unfold k0_part8_skel
  simp only [Prog.lift, Prog.bind_op, Prog.bind_ret, Prog.pure_eq_ret]
  iintro #HR HO ⟨L0, B0, Z0⟩ S7 D7 S9 D9 R2 Hk
  ihave B0' := (rPts_split m 0 c fullShare.right).1 $$ B0
  icases B0' with ⟨B7, B9⟩
  iapply (step_send_fwd m K c 7 0 fullShare.right.left rfl rfl rfl (dev11_eq c) (by rfl) (by rfl) (by rfl) (by rfl) [9, 8, 10, 11, 12, 13]) $$ HR HO B7 D7 S7
  iintro ⟨A7, HO⟩
  iapply (step_send_fwd m K c 9 0 fullShare.right.right rfl rfl rfl (dev12_eq c) (by rfl) (by rfl) (by rfl) (by rfl) [8, 10, 11, 12, 13]) $$ HR HO B9 D9 S9
  iintro ⟨A9, HO⟩
  iapply (step_recv m K c 2 (by rfl) [8, 10, 11, 12, 13] (by decide) (by rfl)) $$ HR HO R2
  iintro ⟨G2, HO⟩
  iapply (step_ret c)
  iapply Hk
  iframe HO L0 Z0 A7 A9 G2

/-- Message 2 is sent on twice; message 5 lands. -/
theorem part9 (v2 v56 v68 : BitVec 32) {Q : PUnit → sProp 𝕄} :
    records m K
      ⊢ iprop(owing c (owed c [8, 10, 11, 12, 13]) -∗ got m 2 c -∗ sendKit 8 c -∗ rAny 8 (peer (ax 8) c)
          -∗ sendKit 10 c -∗ rAny 10 (peer (ax 10) c) -∗ armed (recvS 5) c
          -∗ ((owing c (owed c [11, 12, 13]) ∗ rPts m 2 c fullShare.left ∗ done (recvS 2) c ∗ armed (sendS 8) c ∗ armed (sendS 10) c ∗ got m 5 c) -∗ Q ⟨⟩)
          -∗ WP c (k0_part9 aM ha bM hb vM hv xM hx wM hw oM ho rM hr gM hg
            cc0_scratch5 cc0_scratch6 cc0_scratch7 cc0_scratch8 c v2 v56 v68) Q) := by
  rw [k0_part9_eq_skeleton]; unfold k0_part9_skel
  simp only [Prog.lift, Prog.bind_op, Prog.bind_ret, Prog.pure_eq_ret]
  iintro #HR HO ⟨L2, B2, Z2⟩ S8 D8 S10 D10 R5 Hk
  ihave B2' := (rPts_split m 2 c fullShare.right).1 $$ B2
  icases B2' with ⟨B8, B10⟩
  iapply (step_send_fwd m K c 8 2 fullShare.right.left rfl rfl rfl (dev13_eq c) (by rfl) (by rfl) (by rfl) (by rfl) [10, 11, 12, 13]) $$ HR HO B8 D8 S8
  iintro ⟨A8, HO⟩
  iapply (step_send_fwd m K c 10 2 fullShare.right.right rfl rfl rfl (dev14_eq c) (by rfl) (by rfl) (by rfl) (by rfl) [11, 12, 13]) $$ HR HO B10 D10 S10
  iintro ⟨A10, HO⟩
  iapply (step_recv m K c 5 (by rfl) [11, 12, 13] (by decide) (by rfl)) $$ HR HO R5
  iintro ⟨G5, HO⟩
  iapply (step_ret c)
  iapply Hk
  iframe HO L2 Z2 A8 A10 G5

/-- Message 5 is sent on; message 6 lands and is sent on. -/
theorem part10 (v2 v56 : BitVec 32) {Q : PUnit → sProp 𝕄} :
    records m K
      ⊢ iprop(owing c (owed c [11, 12, 13]) -∗ got m 5 c -∗ sendKit 11 c -∗ rAny 11 (peer (ax 11) c) -∗ armed (recvS 6) c
          -∗ sendKit 12 c -∗ rAny 12 (peer (ax 12) c)
          -∗ ((owing c (owed c [13]) ∗ rPts m 5 c fullShare.left ∗ done (recvS 5) c ∗ armed (sendS 11) c
                ∗ rPts m 6 c fullShare.left ∗ done (recvS 6) c ∗ armed (sendS 12) c) -∗ Q ⟨⟩)
          -∗ WP c (k0_part10 aM ha bM hb vM hv xM hx wM hw oM ho rM hr gM hg
            cc0_scratch5 cc0_scratch6 cc0_scratch7 cc0_scratch8 c v2 v56) Q) := by
  rw [k0_part10_eq_skeleton]; unfold k0_part10_skel
  simp only [Prog.lift, Prog.bind_op, Prog.bind_ret, Prog.pure_eq_ret]
  iintro #HR HO ⟨L5, B5, Z5⟩ S11 D11 R6 S12 D12 Hk
  iapply (step_send_fwd m K c 11 5 fullShare.right rfl rfl rfl (dev15_eq c) (by rfl) (by rfl) (by rfl) (by rfl) [12, 13]) $$ HR HO B5 D11 S11
  iintro ⟨A11, HO⟩
  iapply (step_recv m K c 6 (by rfl) [12, 13] (by decide) (by rfl)) $$ HR HO R6
  iintro ⟨⟨L6, B6, Z6⟩, HO⟩
  iapply (step_send_fwd m K c 12 6 fullShare.right rfl rfl rfl (dev16_eq c) (by rfl) (by rfl) (by rfl) (by rfl) [13]) $$ HR HO B6 D12 S12
  iintro ⟨A12, HO⟩
  iapply (step_ret c)
  iapply Hk
  iframe HO L5 Z5 A11 L6 Z6 A12

/-- Message 10 lands and is sent on, the last to leave; message 1 lands. -/
theorem part11 (v2 v68 : BitVec 32) {Q : PUnit → sProp 𝕄} :
    records m K
      ⊢ iprop(owing c (owed c [13]) -∗ armed (recvS 10) c -∗ sendKit 13 c -∗ rAny 13 (peer (ax 13) c) -∗ armed (recvS 1) c
          -∗ ((owing c (owed c []) ∗ rPts m 10 c fullShare.left ∗ done (recvS 10) c ∗ armed (sendS 13) c ∗ got m 1 c) -∗ Q ⟨⟩)
          -∗ WP c (k0_part11 aM ha bM hb vM hv xM hx wM hw oM ho rM hr gM hg
            cc0_scratch5 cc0_scratch6 cc0_scratch7 cc0_scratch8 c v2 v68) Q) := by
  rw [k0_part11_eq_skeleton]; unfold k0_part11_skel
  simp only [Prog.lift, Prog.bind_op, Prog.bind_ret, Prog.pure_eq_ret]
  iintro #HR HO R10 S13 D13 R1 Hk
  iapply (step_recv m K c 10 (by rfl) [13] (by decide) (by rfl)) $$ HR HO R10
  iintro ⟨⟨L10, B10, Z10⟩, HO⟩
  iapply (step_send_fwd m K c 13 10 fullShare.right rfl rfl rfl (dev17_eq c) (by rfl) (by rfl) (by rfl) (by rfl) []) $$ HR HO B10 D13 S13
  iintro ⟨A13, HO⟩
  iapply (step_recv m K c 1 (by rfl) [] (by decide) (by rfl)) $$ HR HO R1
  iintro ⟨G1, HO⟩
  iapply (step_ret c)
  iapply Hk
  iframe HO L10 Z10 A13 G1

end Cert.CubeProof

end
-- ==== Proof.Products.lean ====
/-
# The body, a stretch at a time (2)

The stretches after the last message has left: the products with the seven landed blocks, each copied out, and the waits
for the copies and the messages sent.
-/
module

public import proofs.«01_k».proof.Proof.Parts

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)
variable (ha : aM.IsWhole) (hb : bM.IsWhole) (hv : vM.IsWhole) (hx : xM.IsWhole) (hw : wM.IsWhole) (ho : oM.IsWhole)
  (hr : rM.IsWhole) (hg : gM.IsWhole)

/-- The product with slot 0, copied out. -/
theorem part12 (v2 v56 : BitVec 32) {Q : PUnit → sProp 𝕄} :
    records m K
      ⊢ iprop(rPts m 0 c fullShare.left -∗ rPts m 1 c fullShare.left -∗ outKit 1 c
          -∗ ((rPts m 0 c fullShare.left ∗ rPts m 1 c fullShare.left ∗ armed (outS 1) c) -∗ Q ⟨⟩)
          -∗ WP c (k0_part12 aM ha bM hb vM hv xM hx wM hw oM ho rM hr gM hg
            cc0_scratch5 cc0_scratch6 cc0_scratch7 cc0_scratch8 c v2 v56 (w16 m c)) Q) := by
  rw [k0_part12_eq_skeleton]; unfold k0_part12_skel
  simp only [Prog.lift, Prog.bind_op, Prog.bind_ret, Prog.pure_eq_ret]
  iintro #HR L0 L1 ⟨I, Hg, Hv⟩ Hk
  iapply (step_slot m c 0 0 1 rfl rfl fullShare.left (by rfl)) $$ L0 L1
  iintro ⟨L0, L1⟩
  iapply (step_gload c 1 (by rfl)) $$ Hg
  iintro %v Hg
  iapply (step_gstore m c 1 (by rfl) (by exact blk_slot m c 0)) $$ Hg
  iintro Hg
  iapply (step_out m K c 1 (by rfl) (by rfl) (off2_eq c)) $$ HR Hg Hv I
  iintro A
  iapply (step_ret c)
  iapply Hk
  isplitl [L0]; · iexact L0
  isplitl [L1]; · iexact L1
  iexact A

/-- Message 3 lands; the product with slot 1, copied out; slot 2 is read. -/
theorem part13 (v62 : BitVec 32) {Q : (Σ' (_ : FVec F S128x128 .f32) (_ : FVec F S128x128 .f32), FVec F S128x128 .f32) → sProp 𝕄} :
    records m K
      ⊢ iprop(owing c (owed c []) -∗ armed (recvS 3) c -∗ rPts m 2 c fullShare.left -∗ outKit 2 c
          -∗ rPts m 4 c fullShare.left -∗ rPts m 5 c fullShare.left
          -∗ ((owing c (owed c []) ∗ got m 3 c ∗ rPts m 2 c fullShare.left ∗ armed (outS 2) c ∗ rPts m 4 c fullShare.left ∗ rPts m 5 c fullShare.left)
              -∗ Q ⟨k0_pay6 (w16 m c) (slotv m c 2), k0_pay7 (w16 m c) (slotv m c 2), k0_pay8⟩)
          -∗ WP c (k0_part13 aM ha bM hb vM hv xM hx wM hw oM ho rM hr gM hg
            cc0_scratch5 cc0_scratch6 cc0_scratch7 cc0_scratch8 c v62 (w16 m c)) Q) := by
  rw [k0_part13_eq_skeleton]; unfold k0_part13_skel
  simp only [Prog.lift, Prog.bind_op, Prog.bind_ret, Prog.pure_eq_ret]
  iintro #HR HO R3 L2 ⟨I, Hg, Hv⟩ L4 L5 Hk
  iapply (step_recv m K c 3 (by rfl) [] (by decide) (by rfl)) $$ HR HO R3
  iintro ⟨⟨L3, G3⟩, HO⟩
  iapply (step_slot m c 1 3 2 rfl rfl fullShare.left (by rfl)) $$ L3 L2
  iintro ⟨L3, L2⟩
  iapply (step_gload c 2 (by rfl)) $$ Hg
  iintro %v Hg
  iapply (step_gstore m c 2 (by rfl) (by exact blk_slot m c 1)) $$ Hg
  iintro Hg
  iapply (step_out m K c 2 (by rfl) (by rfl) (off3_eq c)) $$ HR Hg Hv I
  iintro A
  iapply (step_slot m c 2 4 5 rfl rfl fullShare.left (by rfl)) $$ L4 L5
  iintro ⟨L4, L5⟩
  iapply (step_ret c)
  iapply Hk
  isplitl [HO]; · iexact HO
  isplitl [L3 G3]
  · isplitl [L3]; · iexact L3
    iexact G3
  isplitl [L2]; · iexact L2
  isplitl [A]; · iexact A
  isplitl [L4]; · iexact L4
  iexact L5

/-- The product with slot 2, copied out; message 7 lands; slot 4 is read. -/
theorem part14 (v2 v68 : BitVec 32) (v397 v399 v400 : FVec F S128x128 .f32) (h : k0_pay9 v397 v399 v400 = blkC m c (orig 3 c))
    {Q : (Σ' (_ : FVec F S128x128 .f32), F .f32) → sProp 𝕄} :
    records m K
      ⊢ iprop(owing c (owed c []) -∗ outKit 3 c -∗ armed (recvS 7) c -∗ rPts m 10 c fullShare.left
          -∗ ((owing c (owed c []) ∗ armed (outS 3) c ∗ got m 7 c ∗ rPts m 10 c fullShare.left)
              -∗ Q ⟨k0_pay10 (w16 m c) (slotv m c 4), Scalar.ofBits .f32 0x3F000000#32⟩)
          -∗ WP c (k0_part14 aM ha bM hb vM hv xM hx wM hw oM ho rM hr gM hg
            cc0_scratch5 cc0_scratch6 cc0_scratch7 cc0_scratch8 c v2 v68 (w16 m c) v397 v399 v400) Q) := by
  rw [k0_part14_eq_skeleton]; unfold k0_part14_skel
  simp only [Prog.lift, Prog.bind_op, Prog.bind_ret, Prog.pure_eq_ret]
  iintro #HR HO ⟨I, Hg, Hv⟩ R7 L10 Hk
  iapply (step_gload c 3 (by rfl)) $$ Hg
  iintro %v Hg
  iapply (step_gstore m c 3 (by rfl) h) $$ Hg
  iintro Hg
  iapply (step_out m K c 3 (by rfl) (by rfl) (off4_eq c)) $$ HR Hg Hv I
  iintro A
  iapply (step_recv m K c 7 (by rfl) [] (by decide) (by rfl)) $$ HR HO R7
  iintro ⟨⟨L7, G7⟩, HO⟩
  iapply (step_slot m c 4 7 10 rfl rfl fullShare.left (by rfl)) $$ L7 L10
  iintro ⟨L7, L10⟩
  iapply (step_ret c)
  iapply Hk
  isplitl [HO]; · iexact HO
  isplitl [A]; · iexact A
  isplitl [L7 G7]
  · isplitl [L7]; · iexact L7
    iexact G7
  iexact L10

/-- The product with slot 4, copied out; message 8 lands; slot 5 is read. -/
theorem part15 (v2 v83 : BitVec 32) (v431 : FVec F S128x128 .f32) (z : F .f32) (h : k0_pay11 v431 z = blkC m c (orig 4 c))
    {Q : Vec F S1x128x1024 .bf16 → sProp 𝕄} :
    records m K
      ⊢ iprop(owing c (owed c []) -∗ outKit 4 c -∗ armed (recvS 8) c -∗ rPts m 6 c fullShare.left
          -∗ ((owing c (owed c []) ∗ armed (outS 4) c ∗ got m 8 c ∗ rPts m 6 c fullShare.left) -∗ Q (slotv m c 5))
          -∗ WP c (k0_part15 aM ha bM hb vM hv xM hx wM hw oM ho rM hr gM hg
            cc0_scratch5 cc0_scratch6 cc0_scratch7 cc0_scratch8 c v2 v83 v431 z) Q) := by
  rw [k0_part15_eq_skeleton]; unfold k0_part15_skel
  simp only [Prog.lift, Prog.bind_op, Prog.bind_ret, Prog.pure_eq_ret]
  iintro #HR HO ⟨I, Hg, Hv⟩ R8 L6 Hk
  iapply (step_gload c 4 (by rfl)) $$ Hg
  iintro %v Hg
  iapply (step_gstore m c 4 (by rfl) h) $$ Hg
  iintro Hg
  iapply (step_out m K c 4 (by rfl) (by rfl) (off5_eq c)) $$ HR Hg Hv I
  iintro A
  iapply (step_recv m K c 8 (by rfl) [] (by decide) (by rfl)) $$ HR HO R8
  iintro ⟨⟨L8, G8⟩, HO⟩
  iapply (step_slot m c 5 6 8 rfl rfl fullShare.left (by rfl)) $$ L6 L8
  iintro ⟨L6, L8⟩
  iapply (step_ret c)
  iapply Hk
  isplitl [HO]; · iexact HO
  isplitl [A]; · iexact A
  isplitl [L8 G8]
  · isplitl [L8]; · iexact L8
    iexact G8
  iexact L6

/-- The product with slot 5, copied out; message 9 lands. -/
theorem part16 (v2 v90 : BitVec 32) (v463 : Vec F S1x128x1024 .bf16) (h : k0_pay12 (w16 m c) v463 = blkC m c (orig 5 c)) {Q : PUnit → sProp 𝕄} :
    records m K
      ⊢ iprop(owing c (owed c []) -∗ outKit 5 c -∗ armed (recvS 9) c
          -∗ ((owing c (owed c []) ∗ armed (outS 5) c ∗ got m 9 c) -∗ Q ⟨⟩)
          -∗ WP c (k0_part16 aM ha bM hb vM hv xM hx wM hw oM ho rM hr gM hg
            cc0_scratch5 cc0_scratch6 cc0_scratch7 cc0_scratch8 c v2 v90 (w16 m c) v463) Q) := by
  rw [k0_part16_eq_skeleton]; unfold k0_part16_skel
  simp only [Prog.lift, Prog.bind_op, Prog.bind_ret, Prog.pure_eq_ret]
  iintro #HR HO ⟨I, Hg, Hv⟩ R9 Hk
  iapply (step_gload c 5 (by rfl)) $$ Hg
  iintro %v Hg
  iapply (step_gstore m c 5 (by rfl) h) $$ Hg
  iintro Hg
  iapply (step_out m K c 5 (by rfl) (by rfl) (off6_eq c)) $$ HR Hg Hv I
  iintro A
  iapply (step_recv m K c 9 (by rfl) [] (by decide) (by rfl)) $$ HR HO R9
  iintro ⟨G9, HO⟩
  iapply (step_ret c)
  iapply Hk
  iframe HO A G9

/-- Message 11 lands; the product with slot 6 is staged. -/
theorem part17 (v2 v97 : BitVec 32) {Q : PUnit → sProp 𝕄} :
    records m K
      ⊢ iprop(owing c (owed c []) -∗ armed (recvS 11) c -∗ rPts m 9 c fullShare.left -∗ gAny 6 c
          -∗ ((owing c (owed c []) ∗ got m 11 c ∗ rPts m 9 c fullShare.left ∗ gPts m 6 c) -∗ Q ⟨⟩)
          -∗ WP c (k0_part17 aM ha bM hb vM hv xM hx wM hw oM ho rM hr gM hg
            cc0_scratch5 cc0_scratch6 cc0_scratch7 cc0_scratch8 c v2 v97 (w16 m c)) Q) := by
  rw [k0_part17_eq_skeleton]; unfold k0_part17_skel
  simp only [Prog.lift, Prog.bind_op, Prog.bind_ret, Prog.pure_eq_ret]
  iintro #HR HO R11 L9 Hg Hk
  iapply (step_recv m K c 11 (by rfl) [] (by decide) (by rfl)) $$ HR HO R11
  iintro ⟨⟨L11, G11⟩, HO⟩
  iapply (step_slot m c 6 9 11 rfl rfl fullShare.left (by rfl)) $$ L9 L11
  iintro ⟨L9, L11⟩
  iapply (step_gload c 6 (by rfl)) $$ Hg
  iintro %v Hg
  iapply (step_gstore m c 6 (by rfl) (by exact blk_slot m c 6)) $$ Hg
  iintro Hg
  iapply (step_ret c)
  iapply Hk
  isplitl [HO]; · iexact HO
  isplitl [L11 G11]
  · isplitl [L11]; · iexact L11
    iexact G11
  isplitl [L9]; · iexact L9
  iexact Hg

/-- That product is copied out; messages 12 and 13 land; slot 3 is read. -/
theorem part18 (v2 : BitVec 32) {Q : (Σ' (_ : FVec F S128x128 .f32) (_ : FVec F S128x128 .f32), FVec F S128x128 .f32) → sProp 𝕄} :
    records m K
      ⊢ iprop(owing c (owed c []) -∗ idle (outS 6) c -∗ gPts m 6 c -∗ vAny (orig 6 c) c -∗ armed (recvS 12) c -∗ armed (recvS 13) c
          -∗ ((owing c (owed c []) ∗ armed (outS 6) c ∗ got m 12 c ∗ got m 13 c)
              -∗ Q ⟨k0_pay15 (w16 m c) (slotv m c 3), k0_pay16 (w16 m c) (slotv m c 3), k0_pay17⟩)
          -∗ WP c (k0_part18 aM ha bM hb vM hv xM hx wM hw oM ho rM hr gM hg
            cc0_scratch5 cc0_scratch6 cc0_scratch7 cc0_scratch8 c v2 (w16 m c)) Q) := by
  rw [k0_part18_eq_skeleton]; unfold k0_part18_skel
  simp only [Prog.lift, Prog.bind_op, Prog.bind_ret, Prog.pure_eq_ret]
  iintro #HR HO I Hg Hv R12 R13 Hk
  iapply (step_out m K c 6 (by rfl) (by rfl) (off7_eq c)) $$ HR Hg Hv I
  iintro A
  iapply (step_recv m K c 12 (by rfl) [] (by decide) (by rfl)) $$ HR HO R12
  iintro ⟨⟨L12, G12⟩, HO⟩
  iapply (step_recv m K c 13 (by rfl) [] (by decide) (by rfl)) $$ HR HO R13
  iintro ⟨⟨L13, G13⟩, HO⟩
  iapply (step_slot m c 3 12 13 rfl rfl fullShare.left (by rfl)) $$ L12 L13
  iintro ⟨L12, L13⟩
  iapply (step_ret c)
  iapply Hk
  isplitl [HO]; · iexact HO
  isplitl [A]; · iexact A
  isplitl [L12 G12]
  · isplitl [L12]; · iexact L12
    iexact G12
  isplitl [L13]; · iexact L13
  iexact G13

/-- The last product, copied out; the first two messages have left. -/
theorem part19 (v76 : BitVec 32) (v551 v556 v557 : FVec F S128x128 .f32) (h : k0_pay18 v551 v556 v557 = blkC m c (orig 7 c)) {Q : PUnit → sProp 𝕄} :
    records m K
      ⊢ iprop(owing c (owed c []) -∗ outKit 7 c -∗ armed (sendS 0) c -∗ armed (sendS 2) c
          -∗ ((owing c (owed c []) ∗ armed (outS 7) c ∗ (srcPts m 0 c ∗ done (sendS 0) c) ∗ (srcPts m 2 c ∗ done (sendS 2) c)) -∗ Q ⟨⟩)
          -∗ WP c (k0_part19 aM ha bM hb vM hv xM hx wM hw oM ho rM hr gM hg
            cc0_scratch5 cc0_scratch6 cc0_scratch7 cc0_scratch8 c v76 v551 v556 v557) Q) := by
  rw [k0_part19_eq_skeleton]; unfold k0_part19_skel
  simp only [Prog.lift, Prog.bind_op, Prog.bind_ret, Prog.pure_eq_ret]
  iintro #HR HO ⟨I, Hg, Hv⟩ A0 A2 Hk
  iapply (step_gload c 7 (by rfl)) $$ Hg
  iintro %v Hg
  iapply (step_gstore m c 7 (by rfl) h) $$ Hg
  iintro Hg
  iapply (step_out m K c 7 (by rfl) (by rfl) (off8_eq c)) $$ HR Hg Hv I
  iintro A
  iapply (step_sent m K c 0 (by rfl) (by rfl)) $$ HR HO A0
  iintro ⟨P0, Z0, HO⟩
  iapply (step_sent m K c 2 (by rfl) (by rfl)) $$ HR HO A2
  iintro ⟨P2, Z2, HO⟩
  iapply (step_ret c)
  iapply Hk
  iframe HO A P0 Z0 P2 Z2

/-- Four messages have left. -/
theorem part20 {Q : PUnit → sProp 𝕄} :
    records m K
      ⊢ iprop(owing c (owed c []) -∗ armed (sendS 4) c -∗ armed (sendS 1) c -∗ armed (sendS 3) c -∗ armed (sendS 5) c
          -∗ ((owing c (owed c []) ∗ (srcPts m 4 c ∗ done (sendS 4) c) ∗ (srcPts m 1 c ∗ done (sendS 1) c) ∗ (srcPts m 3 c ∗ done (sendS 3) c)
                ∗ (srcPts m 5 c ∗ done (sendS 5) c)) -∗ Q ⟨⟩)
          -∗ WP c (k0_part20 aM ha bM hb vM hv xM hx wM hw oM ho rM hr gM hg
            cc0_scratch5 cc0_scratch6 cc0_scratch7 cc0_scratch8) Q) := by
  rw [k0_part20_eq_skeleton]; unfold k0_part20_skel
  simp only [Prog.lift, Prog.bind_op, Prog.bind_ret, Prog.pure_eq_ret]
  iintro #HR HO A4 A1 A3 A5 Hk
  iapply (step_sent m K c 4 (by rfl) (by rfl)) $$ HR HO A4
  iintro ⟨P4, Z4, HO⟩
  iapply (step_sent m K c 1 (by rfl) (by rfl)) $$ HR HO A1
  iintro ⟨P1, Z1, HO⟩
  iapply (step_sent m K c 3 (by rfl) (by rfl)) $$ HR HO A3
  iintro ⟨P3, Z3, HO⟩
  iapply (step_sent m K c 5 (by rfl) (by rfl)) $$ HR HO A5
  iintro ⟨P5, Z5, HO⟩
  iapply (step_ret c)
  iapply Hk
  iframe HO P4 Z4 P1 Z1 P3 Z3 P5 Z5

/-- Four more, sent on. -/
theorem part21 {Q : PUnit → sProp 𝕄} :
    records m K
      ⊢ iprop(owing c (owed c []) -∗ armed (sendS 6) c -∗ armed (sendS 7) c -∗ armed (sendS 9) c -∗ armed (sendS 8) c
          -∗ ((owing c (owed c []) ∗ (srcPts m 6 c ∗ done (sendS 6) c) ∗ (srcPts m 7 c ∗ done (sendS 7) c) ∗ (srcPts m 9 c ∗ done (sendS 9) c)
                ∗ (srcPts m 8 c ∗ done (sendS 8) c)) -∗ Q ⟨⟩)
          -∗ WP c (k0_part21 aM ha bM hb vM hv xM hx wM hw oM ho rM hr gM hg
            cc0_scratch5 cc0_scratch6 cc0_scratch7 cc0_scratch8) Q) := by
  rw [k0_part21_eq_skeleton]; unfold k0_part21_skel
  simp only [Prog.lift, Prog.bind_op, Prog.bind_ret, Prog.pure_eq_ret]
  iintro #HR HO A6 A7 A9 A8 Hk
  iapply (step_sent m K c 6 (by rfl) (by rfl)) $$ HR HO A6
  iintro ⟨P6, Z6, HO⟩
  iapply (step_sent m K c 7 (by rfl) (by rfl)) $$ HR HO A7
  iintro ⟨P7, Z7, HO⟩
  iapply (step_sent m K c 9 (by rfl) (by rfl)) $$ HR HO A9
  iintro ⟨P9, Z9, HO⟩
  iapply (step_sent m K c 8 (by rfl) (by rfl)) $$ HR HO A8
  iintro ⟨P8, Z8, HO⟩
  iapply (step_ret c)
  iapply Hk
  iframe HO P6 Z6 P7 Z7 P9 Z9 P8 Z8

/-- The last four. -/
theorem part22 {Q : PUnit → sProp 𝕄} :
    records m K
      ⊢ iprop(owing c (owed c []) -∗ armed (sendS 10) c -∗ armed (sendS 11) c -∗ armed (sendS 12) c -∗ armed (sendS 13) c
          -∗ ((owing c (owed c []) ∗ (srcPts m 10 c ∗ done (sendS 10) c) ∗ (srcPts m 11 c ∗ done (sendS 11) c) ∗ (srcPts m 12 c ∗ done (sendS 12) c)
                ∗ (srcPts m 13 c ∗ done (sendS 13) c)) -∗ Q ⟨⟩)
          -∗ WP c (k0_part22 aM ha bM hb vM hv xM hx wM hw oM ho rM hr gM hg
            cc0_scratch5 cc0_scratch6 cc0_scratch7 cc0_scratch8) Q) := by
  rw [k0_part22_eq_skeleton]; unfold k0_part22_skel
  simp only [Prog.lift, Prog.bind_op, Prog.bind_ret, Prog.pure_eq_ret]
  iintro #HR HO A10 A11 A12 A13 Hk
  iapply (step_sent m K c 10 (by rfl) (by rfl)) $$ HR HO A10
  iintro ⟨P10, Z10, HO⟩
  iapply (step_sent m K c 11 (by rfl) (by rfl)) $$ HR HO A11
  iintro ⟨P11, Z11, HO⟩
  iapply (step_sent m K c 12 (by rfl) (by rfl)) $$ HR HO A12
  iintro ⟨P12, Z12, HO⟩
  iapply (step_sent m K c 13 (by rfl) (by rfl)) $$ HR HO A13
  iintro ⟨P13, Z13, HO⟩
  iapply (step_ret c)
  iapply Hk
  iframe HO P10 Z10 P11 Z11 P12 Z12 P13 Z13

/-- The first five blocks of the result are in place. -/
theorem part23 {Q : PUnit → sProp 𝕄} :
    records m K
      ⊢ iprop(owing c (owed c []) -∗ armed (outS 0) c -∗ armed (outS 1) c -∗ armed (outS 2) c -∗ armed (outS 3) c -∗ armed (outS 4) c
          -∗ ((owing c (owed c []) ∗ ((vPts m (orig 0 c) c ∗ gPts m 0 c) ∗ done (outS 0) c) ∗ ((vPts m (orig 1 c) c ∗ gPts m 1 c) ∗ done (outS 1) c)
                ∗ ((vPts m (orig 2 c) c ∗ gPts m 2 c) ∗ done (outS 2) c) ∗ ((vPts m (orig 3 c) c ∗ gPts m 3 c) ∗ done (outS 3) c)
                ∗ ((vPts m (orig 4 c) c ∗ gPts m 4 c) ∗ done (outS 4) c)) -∗ Q ⟨⟩)
          -∗ WP c (k0_part23 aM ha bM hb vM hv xM hx wM hw oM ho rM hr gM hg
            cc0_scratch5 cc0_scratch6 cc0_scratch7 cc0_scratch8 c) Q) := by
  rw [k0_part23_eq_skeleton]; unfold k0_part23_skel
  simp only [Prog.lift, Prog.bind_op, Prog.bind_ret, Prog.pure_eq_ret]
  iintro #HR HO A0 A1 A2 A3 A4 Hk
  iapply (step_copied m K c 0 (by rfl) (by rfl)) $$ HR HO A0
  iintro ⟨P0, Z0, HO⟩
  iapply (step_copied m K c 1 (by rfl) (by rfl)) $$ HR HO A1
  iintro ⟨P1, Z1, HO⟩
  iapply (step_copied m K c 2 (by rfl) (by rfl)) $$ HR HO A2
  iintro ⟨P2, Z2, HO⟩
  iapply (step_copied m K c 3 (by rfl) (by rfl)) $$ HR HO A3
  iintro ⟨P3, Z3, HO⟩
  iapply (step_copied m K c 4 (by rfl) (by rfl)) $$ HR HO A4
  iintro ⟨P4, Z4, HO⟩
  iapply (step_ret c)
  iapply Hk
  isplitl [HO]; · iexact HO
  isplitl [P0 Z0]; · iframe P0 Z0
  isplitl [P1 Z1]; · iframe P1 Z1
  isplitl [P2 Z2]; · iframe P2 Z2
  isplitl [P3 Z3]; · iframe P3 Z3
  iframe P4 Z4

end Cert.CubeProof

end
-- ==== Proof.Body.lean ====
/-
# The whole body

The stretches put together: from a device's memory, semaphores and debts at launch to what it holds when the kernel
returns, the result computed.
-/
module

public import proofs.«01_k».proof.Proof.Products

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)
variable (ha : aM.IsWhole) (hb : bM.IsWhole) (hv : vM.IsWhole) (hx : xM.IsWhole) (hw : wM.IsWhole) (ho : oM.IsWhole)
  (hr : rM.IsWhole) (hg : gM.IsWhole)

/-! ## Families, listed -/

omit [FloatOps F] in
theorem fin2 (Φ : Fin 2 → sProp 𝕄) : bigSep Finset.univ Φ = iprop(Φ 0 ∗ Φ 1) :=
  bigSep_univ_eq_bigSepL [0, 1] (by decide) (by decide) Φ
omit [FloatOps F] in
theorem fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

omit [FloatOps F] in
/-- The messages, by the axis each travels. -/
theorem byAxis (Φ : Fin 14 → sProp 𝕄) :
    iprop((bigSep (Finset.univ.filter fun k => ax k = 0) Φ) ∗ (bigSep (Finset.univ.filter fun k => ax k = 1) Φ) ∗ (bigSep (Finset.univ.filter fun k => ax k = 2) Φ))
      = iprop((Φ 0 ∗ Φ 1 ∗ Φ 10 ∗ Φ 11 ∗ Φ 12) ∗ (Φ 2 ∗ Φ 3 ∗ Φ 6 ∗ Φ 7) ∗ (Φ 4 ∗ Φ 5 ∗ Φ 8 ∗ Φ 9 ∗ Φ 13)) := by
  rw [bigSep_eq_bigSepL_of_eq [0, 1, 10, 11, 12] (by decide) (by decide), bigSep_eq_bigSepL_of_eq [2, 3, 6, 7] (by decide) (by decide),
    bigSep_eq_bigSepL_of_eq [4, 5, 8, 9, 13] (by decide) (by decide)]
  rfl

/-! ## What a device starts from and what it ends with -/

/-- A buffer held whole, whatever it holds. -/
def anyBuf (b : Ref sig .tc) : sProp 𝕄 := iprop(∃ f : Buf (Elt F) ((c : Thread nD τ).loc b), (c : Thread nD τ).loc b ↦{fullShare} f)

/-- The semaphores' side of a device at launch: its positions, its credit, and the tokens of what it pays. -/
def kit : sProp 𝕄 :=
  iprop((atPos ER (barCell c) 0 ∅ 0 ∗ cred (tallyAt (barCell c) () 3))
    ∗ (bigSep Finset.univ fun a : Fin 3 => dutyTok ER (barCell (peer a c)) 0 a)
    ∗ (bigSep Finset.univ fun k : Fin 14 => sendKit k c) ∗ (bigSep Finset.univ fun k : Fin 14 => armed (recvS k) c)
    ∗ (bigSep Finset.univ fun i : Fin 2 => idle (loadS i) c) ∗ (bigSep Finset.univ fun j : Fin 8 => idle (outS j) c))

/-- Its semaphores at zero. -/
def zeros : sProp 𝕄 :=
  iprop(semVal (barCell c) 0
    ∗ (bigSep Finset.univ fun k : Fin 14 => done (sendS k) c) ∗ (bigSep Finset.univ fun k : Fin 14 => done (recvS k) c)
    ∗ (bigSep Finset.univ fun i : Fin 2 => done (loadS i) c) ∗ (bigSep Finset.univ fun j : Fin 8 => done (outS j) c))

/-- Its scratch buffers. -/
def scratch : sProp 𝕄 :=
  iprop(anyBuf c cc0_scratch0 ∗ anyBuf c cc0_scratch1 ∗ anyBuf c cc0_scratch2 ∗ anyBuf c cc0_scratch3 ∗ anyBuf c cc0_scratch4)

/-- Its result. -/
def resPts : sProp 𝕄 := (c : Thread nD τ).loc main_v1 ↦{fullShare} resC m c

omit [FloatOps F] in
/-- Held elements are elements held at some contents. -/
theorem some_of {b : Ref sig .tc} (S : Finset (Shape.Idx ((c : Thread nD τ).loc b).ty.shape)) (f : Buf (Elt F) ((c : Thread nD τ).loc b)) :
    ((c : Thread nD τ).loc b ↦[S]{fullShare} f : sProp 𝕄) ⊢ iprop(∃ g : Buf (Elt F) ((c : Thread nD τ).loc b), (c : Thread nD τ).loc b ↦[S]{fullShare} g) := by
  iintro H; iexists f; iexact H

/-! ## Cutting the buffers, and putting them together again -/

omit [FloatOps F] in
/-- The slots, cut into the windows the neighbours write, by the axis each message comes along. -/
theorem slots_out :
    anyBuf c cc0_scratch3
      ⊢ (iprop((bigSep (Finset.univ.filter fun k => ax k = 0) fun k => rAny k c) ∗ (bigSep (Finset.univ.filter fun k => ax k = 1) fun k => rAny k c)
          ∗ (bigSep (Finset.univ.filter fun k => ax k = 2) fun k => rAny k c)) : sProp 𝕄) := by
  have h : anyBuf c cc0_scratch3 ⊢ (bigSep Finset.univ fun k => rAny k c : sProp 𝕄) := by
    unfold anyBuf
    iintro ⟨%f, H⟩
    ihave H' := (Entails.of_eq (Ring.pointsTo_blocks kSet kSet_disjoint kSet_cover f)) $$ H
    have hm : (bigSep Finset.univ fun k => ((c : Thread nD τ).loc cc0_scratch3 ↦[kSet k]{fullShare} f : sProp 𝕄)) ⊢ bigSep Finset.univ fun k => rAny k c :=
      bigSep_mono fun k _ => some_of c _ f
    iapply hm; iexact H'
  refine h.trans ?_
  rw [fin14, byAxis]
  iintro ⟨R0, R1, R2, R3, R4, R5, R6, R7, R8, R9, R10, R11, R12, R13⟩
  iframe R0 R1 R2 R3 R4 R5 R6 R7 R8 R9 R10 R11 R12 R13

omit [FloatOps F] in
/-- What the eight block copies take. -/
theorem outs_intro :
    iprop((bigSep Finset.univ fun j : Fin 8 => idle (outS j) c) ∗ anyBuf c cc0_scratch4 ∗ anyBuf c main_v1)
      ⊢ (bigSep Finset.univ fun j : Fin 8 => outKit j c : sProp 𝕄) := by
  have hg : anyBuf c cc0_scratch4 ⊢ (bigSep Finset.univ fun j => gAny j c : sProp 𝕄) := by
    unfold anyBuf
    iintro ⟨%f, H⟩
    ihave H' := (Entails.of_eq (Ring.pointsTo_blocks gSet gW_disjoint gW_cover f)) $$ H
    have hm : (bigSep Finset.univ fun j => ((c : Thread nD τ).loc cc0_scratch4 ↦[gSet j]{fullShare} f : sProp 𝕄)) ⊢ bigSep Finset.univ fun j => gAny j c :=
      bigSep_mono fun j _ => some_of c _ f
    iapply hm; iexact H'
  have hv : anyBuf c main_v1 ⊢ (bigSep Finset.univ fun j => vAny (orig j c) c : sProp 𝕄) := by
    rw [show (bigSep Finset.univ fun j => vAny (orig j c) c : sProp 𝕄) = bigSep Finset.univ fun r => vAny r c from
      (bigSep_univ_equiv (origs c) fun r => (vAny r c : sProp 𝕄)).symm]
    unfold anyBuf
    iintro ⟨%f, H⟩
    ihave H' := (Entails.of_eq (Ring.pointsTo_blocks vSet vW_disjoint vW_cover f)) $$ H
    have hm : (bigSep Finset.univ fun r => ((c : Thread nD τ).loc main_v1 ↦[vSet r]{fullShare} f : sProp 𝕄)) ⊢ bigSep Finset.univ fun r => vAny r c :=
      bigSep_mono fun r _ => some_of c _ f
    iapply hm; iexact H'
  rw [bigSep_sep', bigSep_sep']
  iintro ⟨I, G, V⟩
  isplitl [I]; · iexact I
  isplitl [G]; · iapply hg; iexact G
  iapply hv; iexact V

/-- The blocks copied are the result, and the staging buffer is whole again. -/
theorem outs_back :
    (bigSep Finset.univ fun j : Fin 8 => iprop((vPts m (orig j c) c ∗ gPts m j c) ∗ done (outS j) c))
      ⊢ iprop(resPts m c ∗ anyBuf c cc0_scratch4 ∗ bigSep Finset.univ fun j : Fin 8 => done (outS j) c) := by
  have hg : (bigSep Finset.univ fun j => gPts m j c) ⊢ anyBuf c cc0_scratch4 := by
    unfold anyBuf gPts
    iintro H
    iexists (stagedC m c)
    iapply (Entails.of_eq (Ring.pointsTo_blocks gSet gW_disjoint gW_cover (stagedC m c)).symm); iexact H
  have hv : (bigSep Finset.univ fun j => vPts m (orig j c) c) ⊢ resPts m c := by
    rw [show (bigSep Finset.univ fun j => vPts m (orig j c) c) = bigSep Finset.univ fun r => vPts m r c from
      (bigSep_univ_equiv (origs c) fun r => vPts m r c).symm]
    have h (w : Buf (Elt F) ((c : Thread nD τ).loc main_v1)) :
        (bigSep Finset.univ fun r => ((c : Thread nD τ).loc main_v1 ↦[vSet r]{fullShare} w : sProp 𝕄)) ⊢ (c : Thread nD τ).loc main_v1 ↦{fullShare} w :=
      by rw [Ring.pointsTo_blocks vSet vW_disjoint vW_cover w]
    exact h (resC m c)
  rw [bigSep_sep', bigSep_sep']
  iintro ⟨⟨V, G⟩, Z⟩
  isplitl [V]; · iapply hv; iexact V
  isplitl [G]; · iapply hg; iexact G
  iexact Z

/-- A window never sent on; -/
theorem keep (k : Fin 14) : got m k c ⊢ iprop(rPts m k c fullShare ∗ done (recvS k) c) := by
  iintro ⟨A, B, Z⟩
  isplitl [A B]
  · iapply (rPts_split m k c fullShare).2; isplitl [A] <;> iassumption
  iexact Z
/-- one sent on once, its message back; -/
theorem back1 (k k' : Fin 14) (h : srcPts m k' c = rPts m k c fullShare.right) :
    iprop(rPts m k c fullShare.left ∗ done (recvS k) c ∗ srcPts m k' c) ⊢ iprop(rPts m k c fullShare ∗ done (recvS k) c) := by
  rw [h]
  iintro ⟨A, Z, B⟩
  iapply (keep m c k)
  isplitl [A]; · iexact A
  isplitl [B] <;> iassumption
/-- one sent on twice, both messages back. -/
theorem back2 (k k' k'' : Fin 14) (h : srcPts m k' c = rPts m k c fullShare.right.left) (h' : srcPts m k'' c = rPts m k c fullShare.right.right) :
    iprop(rPts m k c fullShare.left ∗ done (recvS k) c ∗ srcPts m k' c ∗ srcPts m k'' c) ⊢ iprop(rPts m k c fullShare ∗ done (recvS k) c) := by
  rw [h, h']
  iintro ⟨A, Z, B, C⟩
  iapply (keep m c k)
  isplitl [A]; · iexact A
  isplitl [B C]
  · iapply (rPts_split m k c fullShare.right).2; isplitl [B] <;> iassumption
  iexact Z

/-- The slots are whole again. -/
theorem slots_back :
    (bigSep Finset.univ fun k : Fin 14 => iprop(rPts m k c fullShare ∗ done (recvS k) c))
      ⊢ iprop(anyBuf c cc0_scratch3 ∗ bigSep Finset.univ fun k : Fin 14 => done (recvS k) c) := by
  rw [bigSep_sep']
  refine sep_mono_left ?_
  unfold anyBuf rPts
  iintro H
  iexists (landed m c)
  iapply (Entails.of_eq (Ring.pointsTo_blocks kSet kSet_disjoint kSet_cover (landed m c)).symm); iexact H

/-! ## The body -/

/-- The device id is read; the numbers computed from it play no part. -/
theorem part1 {Q : (Σ' (_ : Dev nD) (_ : BitVec 32) (_ : BitVec 32) (_ : BitVec 32) (_ : BitVec 32) (_ : BitVec 32) (_ : BitVec 32) (_ : BitVec 32), BitVec 1) → sProp 𝕄} :
    iprop(∀ v2 v19 v29 c2 v30 v35 v37 v38, Q ⟨c, v2, v19, v29, c2, v30, v35, v37, v38⟩)
      ⊢ WP c (k0_part1 aM ha bM hb vM hv xM hx wM hw oM ho rM hr gM hg
            cc0_scratch5 cc0_scratch6 cc0_scratch7 cc0_scratch8) Q := by
  rw [k0_part1_eq_skeleton]; unfold k0_part1_skel
  rw [Prog.lift, Prog.bind_op, WP, wp_deviceId]
  iintro H
  iapply (step_ret c)
  iapply H

theorem part2 (v19 v29 c2 v30 v35 v37 : BitVec 32) (v38 : BitVec 1)
    {Q : (Σ' (_ : BitVec 32) (_ : BitVec 32) (_ : BitVec 32) (_ : BitVec 32) (_ : BitVec 32) (_ : BitVec 32) (_ : BitVec 32), BitVec 32) → sProp 𝕄} :
    iprop(∀ v46 v50 v56 v62 v68 v76 v77 v78, Q ⟨v46, v50, v56, v62, v68, v76, v77, v78⟩)
      ⊢ WP c (k0_part2 aM ha bM hb vM hv xM hx wM hw oM ho rM hr gM hg
            cc0_scratch5 cc0_scratch6 cc0_scratch7 cc0_scratch8 v19 v29 c2 v30 v35 v37 v38) Q := by
  rw [k0_part2_eq_skeleton]; unfold k0_part2_skel
  iintro H
  iapply (step_ret c)
  iapply H

/-- One stretch before the rest. -/
theorem step_bind {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  rw [WP, WP, wp_bind]

end Cert.CubeProof

end
-- ==== Proof.Sound.lean ====
/-
# The whole body, run

The stretches one after the other.
-/
module

public import proofs.«01_k».proof.Proof.Body

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)
variable (ha : aM.IsWhole) (hb : bM.IsWhole) (hv : vM.IsWhole) (hx : xM.IsWhole) (hw : wM.IsWhole) (ho : oM.IsWhole)
  (hr : rM.IsWhole) (hg : gM.IsWhole)

/-- The body, from what a device holds at launch: it ends with the operands untouched, the result computed, the scratch
    buffers back, nothing owed and its semaphores at zero. -/
theorem sound {Q : PUnit → sProp 𝕄} :
    records m K
      ⊢ iprop(kit c -∗ owing c (O₀ c) -∗ aPts m c -∗ bPts m c -∗ anyBuf c main_v1 -∗ scratch c
          -∗ ((owing c (owed c []) ∗ (aPts m c ∗ bPts m c ∗ resPts m c) ∗ scratch c ∗ zeros c) -∗ Q ⟨⟩)
          -∗ WP c (cc0_body aM ha bM hb vM hv xM hx wM hw oM ho rM hr gM hg
        cc0_scratch5 cc0_scratch6 cc0_scratch7 cc0_scratch8) Q) := by
  rw [cc0_body_eq_skeleton]; unfold cc0_body_skel kit scratch
  rw [fin3, fin14 (fun k => sendKit k c), fin14 (fun k => armed (recvS k) c), fin2]
  iintro #HR ⟨⟨At, Cr⟩, ⟨T0, T1, T2⟩, ⟨S0, S1, S2, S3, S4, S5, S6, S7, S8, S9, S10, S11, S12, S13⟩,
    ⟨R0, R1, R2, R3, R4, R5, R6, R7, R8, R9, R10, R11, R12, R13⟩, ⟨Ix, Iw⟩, Io⟩ HO Ha Hb Hv ⟨Hx, Hw, Ho, Hr, Hg⟩ Hk
  ihave Hr' := (slots_out (F := F) c) $$ Hr
  icases Hr' with ⟨E0, E1, E2⟩
  ihave Ho' := (outs_intro (F := F) c) $$ [Io Hg Hv]
  · isplitl [Io]; · iexact Io
    isplitl [Hg] <;> iassumption
  ihave Ho'' := (Entails.of_eq (fin8 (F := F) fun j => outKit j c)) $$ Ho'
  icases Ho'' with ⟨O0, O1, O2, O3, O4, O5, O6, O7⟩
  unfold anyBuf
  iapply (step_bind c); iapply (part1 c ha hb hv hx hw ho hr hg)
  iintro %v2 %v19 %v29 %c2 %v30 %v35 %v37 %v38
  iapply (step_bind c); iapply (part2 c ha hb hv hx hw ho hr hg)
  iintro %v46 %v50 %v56 %v62 %v68 %v76 %v77 %v78
  iapply (step_bind c); iapply (part3 m K c ha hb hv hx hw ho hr hg _ _ _ _ _ _ _ _) $$ HR HO Ha Hx Ix Hb Hw Iw T0 E0 T1 E1 T2 E2
  iintro %v83 %v90 %v97 ⟨HO, Hx, Ha, ZX, Aw⟩
  iapply (step_bind c); iapply (part4 m K c ha hb hv hx hw ho hr hg _ _) $$ HR HO Hx Ho Aw At Cr S0 S2
  iintro ⟨HO, ⟨Hx, Hw, Hb⟩, ⟨ZW, ZB⟩, ⟨OL, P4, P1, P3, P5⟩, ⟨A0, A2⟩, ⟨D1, D3, D4, D5⟩, ⟨D6, D7, D8, D9⟩, D10, D11, D12, D13⟩
  iapply (step_bind c); iapply (part5 m K c ha hb hv hx hw ho hr hg _ _ _) $$ HR HO P4 D4 S4 P1 D1 S1 P3 D3 S3
  iintro ⟨HO, A4, A1, A3⟩
  iapply (step_bind c); iapply (part6 m K c ha hb hv hx hw ho hr hg _ _ _) $$ HR HO P5 D5 S5 OL O0
  iintro ⟨HO, A5, OL, B0⟩
  iapply (step_bind c); iapply (part7 m K c ha hb hv hx hw ho hr hg _ _) $$ HR HO R4 S6 D6 R0
  iintro ⟨HO, L4, Z4, A6, G0⟩
  iapply (step_bind c); iapply (part8 m K c ha hb hv hx hw ho hr hg _ _ _) $$ HR HO G0 S7 D7 S9 D9 R2
  iintro ⟨HO, L0, Z0, A7, A9, G2⟩
  iapply (step_bind c); iapply (part9 m K c ha hb hv hx hw ho hr hg _ _ _) $$ HR HO G2 S8 D8 S10 D10 R5
  iintro ⟨HO, L2, Z2, A8, A10, G5⟩
  iapply (step_bind c); iapply (part10 m K c ha hb hv hx hw ho hr hg _ _) $$ HR HO G5 S11 D11 R6 S12 D12
  iintro ⟨HO, L5, Z5, A11, L6, Z6, A12⟩
  iapply (step_bind c); iapply (part11 m K c ha hb hv hx hw ho hr hg _ _) $$ HR HO R10 S13 D13 R1
  iintro ⟨HO, L10, Z10, A13, L1, G1⟩
  iapply (step_bind c); iapply (part12 m K c ha hb hv hx hw ho hr hg _ _) $$ HR L0 L1 O1
  iintro ⟨L0, L1, B1⟩
  iapply (step_bind c); iapply (part13 m K c ha hb hv hx hw ho hr hg _) $$ HR HO R3 L2 O2 L4 L5
  iintro ⟨HO, G3, L2, B2, L4, L5⟩
  iapply (step_bind c); iapply (part14 m K c ha hb hv hx hw ho hr hg _ _ _ _ _ (by exact blk_slot m c 2)) $$ HR HO O3 R7 L10
  iintro ⟨HO, B3, G7, L10⟩
  iapply (step_bind c); iapply (part15 m K c ha hb hv hx hw ho hr hg _ _ _ _ (by exact blk_slot m c 4)) $$ HR HO O4 R8 L6
  iintro ⟨HO, B4, G8, L6⟩
  iapply (step_bind c); iapply (part16 m K c ha hb hv hx hw ho hr hg _ _ _ (by exact blk_slot m c 5)) $$ HR HO O5 R9
  iintro ⟨HO, B5, L9, G9⟩
  icases O6 with ⟨I6, Hg6, Hv6⟩
  iapply (step_bind c); iapply (part17 m K c ha hb hv hx hw ho hr hg _ _) $$ HR HO R11 L9 Hg6
  iintro ⟨HO, G11, L9, Hg6⟩
  iapply (step_bind c); iapply (part18 m K c ha hb hv hx hw ho hr hg _) $$ HR HO I6 Hg6 Hv6 R12 R13
  iintro ⟨HO, B6, G12, G13⟩
  iapply (step_bind c); iapply (part19 m K c ha hb hv hx hw ho hr hg _ _ _ _ (by exact blk_slot m c 3)) $$ HR HO O7 A0 A2
  iintro ⟨HO, B7, ⟨P0, Y0⟩, P2, Y2⟩
  iapply (step_bind c); iapply (part20 m K c ha hb hv hx hw ho hr hg) $$ HR HO A4 A1 A3 A5
  iintro ⟨HO, ⟨P4, Y4⟩, ⟨P1, Y1⟩, ⟨P3, Y3⟩, P5, Y5⟩
  iapply (step_bind c); iapply (part21 m K c ha hb hv hx hw ho hr hg) $$ HR HO A6 A7 A9 A8
  iintro ⟨HO, ⟨P6, Y6⟩, ⟨P7, Y7⟩, ⟨P9, Y9⟩, P8, Y8⟩
  iapply (step_bind c); iapply (part22 m K c ha hb hv hx hw ho hr hg) $$ HR HO A10 A11 A12 A13
  iintro ⟨HO, ⟨P10, Y10⟩, ⟨P11, Y11⟩, ⟨P12, Y12⟩, P13, Y13⟩
  iapply (step_bind c); iapply (part23 m K c ha hb hv hx hw ho hr hg) $$ HR HO B0 B1 B2 B3 B4
  iintro ⟨HO, C0, C1, C2, C3, C4⟩
  simp only [Prog.lift, Prog.bind_op, Prog.bind_ret, Prog.pure_eq_ret]
  iapply (step_copied m K c 5 (by rfl) (by rfl)) $$ HR HO B5
  iintro ⟨C5, W5, HO⟩
  iapply (step_copied m K c 6 (by rfl) (by rfl)) $$ HR HO B6
  iintro ⟨C6, W6, HO⟩
  iapply (step_copied m K c 7 (by rfl) (by rfl)) $$ HR HO B7
  iintro ⟨C7, W7, HO⟩
  iapply (step_ret c)
  iapply Hk
  ihave V := (outs_back m c) $$ [C0 C1 C2 C3 C4 C5 W5 C6 W6 C7 W7]
  · rw [fin8]
    isplitl [C0]; · iexact C0
    isplitl [C1]; · iexact C1
    isplitl [C2]; · iexact C2
    isplitl [C3]; · iexact C3
    isplitl [C4]; · iexact C4
    isplitl [C5 W5]; · isplitl [C5] <;> iassumption
    isplitl [C6 W6]; · isplitl [C6] <;> iassumption
    isplitl [C7] <;> iassumption
  icases V with ⟨Hres, Hstg, ZO⟩
  ihave Hown := (own_split m c).2 $$ [OL P0 P2 P4 P1 P3 P5]
  · iframe OL P0 P2 P4 P1 P3 P5
  ihave Hsl := (slots_back m c) $$ [G1 L1 G3 G7 G8 L9 G9 G11 G12 G13 L0 Z0 P7 P9 L2 Z2 P8 P10 L4 Z4 P6 L5 Z5 P11 L6 Z6 P12 L10 Z10 P13]
  · rw [fin14]
    isplitl [L0 Z0 P7 P9]; · iapply (back2 m c 0 7 9 (src_fwd m c 7 0 rfl rfl rfl) (src_fwd m c 9 0 rfl rfl rfl)); iframe L0 Z0 P7 P9
    isplitl [L1 G1]; · iapply (keep m c 1); isplitl [L1] <;> iassumption
    isplitl [L2 Z2 P8 P10]; · iapply (back2 m c 2 8 10 (src_fwd m c 8 2 rfl rfl rfl) (src_fwd m c 10 2 rfl rfl rfl)); iframe L2 Z2 P8 P10
    isplitl [G3]; · iapply (keep m c 3); iexact G3
    isplitl [L4 Z4 P6]; · iapply (back1 m c 4 6 (src_fwd m c 6 4 rfl rfl rfl)); iframe L4 Z4 P6
    isplitl [L5 Z5 P11]; · iapply (back1 m c 5 11 (src_fwd m c 11 5 rfl rfl rfl)); iframe L5 Z5 P11
    isplitl [L6 Z6 P12]; · iapply (back1 m c 6 12 (src_fwd m c 12 6 rfl rfl rfl)); iframe L6 Z6 P12
    isplitl [G7]; · iapply (keep m c 7); iexact G7
    isplitl [G8]; · iapply (keep m c 8); iexact G8
    isplitl [L9 G9]; · iapply (keep m c 9); isplitl [L9] <;> iassumption
    isplitl [L10 Z10 P13]; · iapply (back1 m c 10 13 (src_fwd m c 13 10 rfl rfl rfl)); iframe L10 Z10 P13
    isplitl [G11]; · iapply (keep m c 11); iexact G11
    isplitl [G12]; · iapply (keep m c 12); iexact G12
    iapply (keep m c 13); iexact G13
  icases Hsl with ⟨Hslots, ZR⟩
  unfold zeros anyBuf xPts wPts
  rw [fin14 (fun k => done (sendS k) c), fin2]
  isplitl [HO]; · iexact HO
  isplitl [Ha Hb Hres]; · iframe Ha Hb Hres
  isplitl [Hx Hw Hown Hslots Hstg]
  · isplitl [Hx]; · iexists _; iexact Hx
    isplitl [Hw]; · iexists _; iexact Hw
    isplitl [Hown]; · iexists _; iexact Hown
    isplitl [Hslots]; · iexact Hslots
    iexact Hstg
  isplitl [ZB]; · iexact ZB
  isplitl [Y0 Y1 Y2 Y3 Y4 Y5 Y6 Y7 Y8 Y9 Y10 Y11 Y12 Y13]
  · iframe Y0 Y1 Y2 Y3 Y4 Y5 Y6 Y7 Y8 Y9 Y10 Y11 Y12 Y13
  isplitl [ZR]; · iexact ZR
  isplitl [ZX ZW]; · iframe ZX ZW
  iexact ZO

end Cert.CubeProof

end
-- ==== Proof.Deal.lean ====
/-
# What the launch deals out

The launch mints the protocol's ghost state semaphore by semaphore. This module hands it to the devices: to each its own
positions, the tokens of what it pays (a barrier's and a message's tokens go to the neighbour that pays them), and the
credit for what its neighbours owe it.
-/
module

public import proofs.«01_k».proof.Proof.Sound

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores of a device, listed by what they serve -/

/-- A transfer's semaphore, from the group it belongs to and its number there. -/
def semOf : (Fin 14 ⊕ Fin 14) ⊕ (Fin 2 ⊕ Fin 8) → DmaSem sig
  | .inl (.inl k) => sendS k
  | .inl (.inr k) => recvS k
  | .inr (.inl i) => loadS i
  | .inr (.inr j) => outS j
theorem semOf_bijective : Function.Bijective semOf :=
  (Fintype.bijective_iff_injective_and_card _).mpr ⟨by decide +kernel, rfl⟩

omit [FloatOps F] in
/-- Over the transfers' semaphores: the sends, the receives, the loads and the results' copies. -/
theorem over_dma (Φ : DmaSem sig → sProp 𝕄) :
    bigSep Finset.univ Φ
      = iprop(((bigSep Finset.univ fun k : Fin 14 => Φ (sendS k)) ∗ (bigSep Finset.univ fun k : Fin 14 => Φ (recvS k)))
        ∗ (bigSep Finset.univ fun i : Fin 2 => Φ (loadS i)) ∗ (bigSep Finset.univ fun j : Fin 8 => Φ (outS j))) := by
  rw [bigSep_univ_equiv (Equiv.ofBijective semOf semOf_bijective), bigSep_univ_sum, bigSep_univ_sum, bigSep_univ_sum]
  rfl

/-- A semaphore: the barrier's or a transfer's. -/
def locOf : Unit ⊕ DmaSem sig → SemLoc sig
  | .inl _ => .reg barS
  | .inr q => .dma q
theorem locOf_bijective : Function.Bijective locOf :=
  (Fintype.bijective_iff_injective_and_card _).mpr ⟨by
    rintro (_ | q) (_ | q') h
    · rfl
    · exact absurd h (by simp [locOf])
    · exact absurd h (by simp [locOf])
    · exact congrArg Sum.inr (SemLoc.dma.inj h), by decide +kernel⟩

omit [FloatOps F] in
/-- Over a device's semaphores: the barrier's, and the transfers'. -/
theorem over_sems (Φ : SemLoc sig → sProp 𝕄) :
    bigSep Finset.univ Φ = iprop(Φ (.reg barS) ∗ bigSep Finset.univ fun q : DmaSem sig => Φ (.dma q)) := by
  rw [bigSep_univ_equiv (Equiv.ofBijective locOf locOf_bijective), bigSep_univ_sum, Finset.univ_unique, bigSep_singleton]
  rfl

/-! ## The ghost state at launch -/

theorem cell_injective : Function.Injective (fun ck : Dev nD × SemLoc sig => cell ck.1 ck.2) := by
  rintro ⟨c, s⟩ ⟨c', s'⟩ h
  have h1 : c = c' := congrArg (fun g : GSem nD τ sig => g.1.1) h
  have h2 : s = s' := congrArg Prod.snd h
  rw [h1, h2]
/-- Every semaphore of every device. -/
def allCells : Finset (GSem nD τ sig) := Finset.univ.map ⟨_, cell_injective⟩

/-- The duties: three of a device's barrier, one of each transfer's semaphore. -/
def dutyOf (ck : Dev nD × (Fin 3 ⊕ DmaSem sig)) : GSem nD τ sig × ℕ × Fin 3 :=
  match ck.2 with
  | .inl a => (barCell ck.1, 0, a)
  | .inr q => (cell ck.1 (.dma q), 0, 0)
theorem dutyOf_injective : Function.Injective dutyOf := by
  rintro ⟨c, a | q⟩ ⟨c', a' | q'⟩ h
  · have h1 : c = c' := congrArg (fun x : GSem nD τ sig × ℕ × Fin 3 => x.1.1.1) h
    have h2 : a = a' := congrArg (fun x : GSem nD τ sig × ℕ × Fin 3 => x.2.2) h
    rw [h1, h2]
  · exact absurd (congrArg (fun x : GSem nD τ sig × ℕ × Fin 3 => x.1.2) h) (by simp [dutyOf])
  · exact absurd (congrArg (fun x : GSem nD τ sig × ℕ × Fin 3 => x.1.2) h) (by simp [dutyOf])
  · have h1 : c = c' := congrArg (fun x : GSem nD τ sig × ℕ × Fin 3 => x.1.1.1) h
    have h2 : q = q' := SemLoc.dma.inj (congrArg (fun x : GSem nD τ sig × ℕ × Fin 3 => x.1.2) h)
    rw [h1, h2]
/-- Every duty of every device's semaphores. -/
def allDuties : Finset (GSem nD τ sig × ℕ × Fin 3) := Finset.univ.map ⟨dutyOf, dutyOf_injective⟩

/-- The launch's ghost state: the library's own, and the protocol's. -/
def u₀ : UU :=
  (initOf (Pipeline.cells cfgs cellOf_inj) (Pipeline.launchToks cfgs cellOf_inj), initOf allCells allDuties)

/-- The tokens of a device's own semaphores. -/
def ownToks (c : Dev nD) : sProp 𝕄 :=
  iprop((bigSep Finset.univ fun a : Fin 3 => dutyTok ER (barCell c) 0 a)
    ∗ bigSep Finset.univ fun q : DmaSem sig => dutyTok ER (cell c (.dma q)) 0 0)
/-- A device's part of the ghost state as minted. -/
def minted (c : Dev nD) : sProp 𝕄 :=
  iprop((bigSep Finset.univ fun sm : SemLoc sig => roundState ER (rd m) (cell c sm) 0)
    ∗ (bigSep Finset.univ fun sm : SemLoc sig => atPos ER (cell c sm) 0 ∅ 0)
    ∗ (bigSep Finset.univ fun sm : SemLoc sig => reached ER (cell c sm) 0) ∗ ownToks c)

/-- The protocol's ghost state is every device's part. -/
theorem mint : BI.own (ER (initOf allCells allDuties)) ⊢ (|==> bigSep Finset.univ (minted m) : sProp 𝕄) := by
  have hX (Φ : GSem nD τ sig → sProp 𝕄) :
      bigSep allCells Φ = bigSep Finset.univ fun c : Dev nD => bigSep Finset.univ fun sm : SemLoc sig => Φ (cell c sm) := by
    unfold allCells; rw [bigSep_map, bigSep_univ_prod]; rfl
  have hT : bigSep allDuties (fun x => (dutyTok ER x.1 x.2.1 x.2.2 : sProp 𝕄)) = bigSep Finset.univ fun c : Dev nD => ownToks c := by
    unfold allDuties; rw [bigSep_map, bigSep_univ_prod]
    exact bigSep_congr fun c _ => by unfold ownToks; rw [bigSep_univ_sum]; rfl
  iintro HX
  imod (Rounds.fund ER (rd m) allCells allDuties) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted; simp only [bigSep_sep']
  isplitl [Hst']; · iexact Hst'
  isplitl [Hat']; · iexact Hat'
  isplitl [Hr'] <;> iassumption

/-! ## The tokens, dealt to the devices that pay them -/

/-- The neighbours along an axis, a permutation of the devices. -/
def across (a : Fin 3) : Dev nD ≃ Dev nD := ⟨peer a, peer a, peer_peer a, peer_peer a⟩

omit [FloatOps F] in
/-- Resources every device has one of for each `i`, moved across `i`'s axis. -/
theorem deal {I : Type} [Fintype I] (ax' : I → Fin 3) (Φ : I → Dev nD → sProp 𝕄) :
    (bigSep Finset.univ fun c : Dev nD => bigSep Finset.univ fun i : I => Φ i c)
      = bigSep Finset.univ fun c : Dev nD => bigSep Finset.univ fun i : I => Φ i (peer (ax' i) c) := by
  rw [bigSep_univ_comm, bigSep_univ_comm fun (c : Dev nD) (i : I) => Φ i (peer (ax' i) c)]
  exact bigSep_congr fun i _ => bigSep_univ_equiv (across (ax' i)) (Φ i)

/-- The tokens of what a device pays. -/
def payToks (c : Dev nD) : sProp 𝕄 :=
  iprop((bigSep Finset.univ fun a : Fin 3 => dutyTok ER (barCell (peer a c)) 0 a)
    ∗ ((bigSep Finset.univ fun k : Fin 14 => dutyTok ER (sendCell k c) 0 0) ∗ (bigSep Finset.univ fun k : Fin 14 => msgTok k c))
    ∗ (bigSep Finset.univ fun i : Fin 2 => dutyTok ER (loadCell i c) 0 0) ∗ (bigSep Finset.univ fun j : Fin 8 => dutyTok ER (outCell j c) 0 0))

omit [FloatOps F] in
theorem toks_dealt : (bigSep Finset.univ fun c : Dev nD => (ownToks c : sProp 𝕄)) = bigSep Finset.univ fun c : Dev nD => payToks c := by
  have h (c : Dev nD) : (ownToks c : sProp 𝕄)
      = iprop((bigSep Finset.univ fun a : Fin 3 => dutyTok ER (barCell c) 0 a)
        ∗ ((bigSep Finset.univ fun k : Fin 14 => dutyTok ER (sendCell k c) 0 0) ∗ (bigSep Finset.univ fun k : Fin 14 => dutyTok ER (recvCell k c) 0 0))
        ∗ (bigSep Finset.univ fun i : Fin 2 => dutyTok ER (loadCell i c) 0 0) ∗ (bigSep Finset.univ fun j : Fin 8 => dutyTok ER (outCell j c) 0 0)) := by
    unfold ownToks; rw [over_dma]
  rw [bigSep_congr fun c _ => h c]
  unfold payToks msgTok
  rw [bigSep_sep', bigSep_sep', bigSep_sep', bigSep_sep', bigSep_sep', bigSep_sep', bigSep_sep', bigSep_sep',
    deal (fun a : Fin 3 => a) fun a c => dutyTok ER (barCell c) 0 a, deal ax fun k c => dutyTok ER (recvCell k c) 0 0]

/-! ## The credit for what the neighbours owe -/

theorem recv_eq_iff {k k' : Fin 14} {c d : Dev nD} : recvCell k c = recvCell k' d ↔ k = k' ∧ c = d := by
  constructor
  · intro h
    have h1 : c = d := congrArg (fun g : GSem nD τ sig => g.1.1) h
    have h2 : recvS k = recvS k' := SemLoc.dma.inj (congrArg Prod.snd h)
    have h3 : 14 + k.val = 14 + k'.val := congrArg Fin.val h2
    exact ⟨Fin.ext (by omega), h1⟩
  · rintro ⟨rfl, rfl⟩; rfl
theorem bar_eq_iff {c d : Dev nD} : barCell c = barCell d ↔ c = d :=
  ⟨fun h => congrArg (fun g : GSem nD τ sig => g.1.1) h, fun h => h ▸ rfl⟩
theorem bar_ne_recv {k : Fin 14} {c d : Dev nD} : barCell c ≠ recvCell k d := fun h => by
  have h2 : SemLoc.reg barS = SemLoc.dma (recvS k) := congrArg Prod.snd h
  cases h2
theorem peer_comm {a : Fin 3} {c d : Dev nD} : c = peer a d ↔ d = peer a c :=
  ⟨fun h => by rw [h, peer_peer], fun h => by rw [h, peer_peer]⟩

/-- The messages owed owe a barrier nothing, -/
theorem owed_bar (d c : Dev nD) : ∀ l : List (Fin 14), owed d l (barCell c) () = 0
  | [] => rfl
  | k :: l => by
    unfold owed
    rw [Pi.add_apply, Finsupp.add_apply, owed_bar d c l, tallyAt_ne_cell bar_ne_recv, Finsupp.zero_apply, Nat.add_zero]
/-- and a receive semaphore its message, if the sender is the neighbour across the message's axis. -/
theorem owed_recv (k : Fin 14) (d c : Dev nD) : ∀ l : List (Fin 14), l.Nodup →
    owed d l (recvCell k c) () = if d = peer (ax k) c ∧ k ∈ l then N else 0
  | [], _ => by rw [if_neg (by simp)]; rfl
  | k' :: l, hl => by
    obtain ⟨hk', hl'⟩ := List.nodup_cons.mp hl
    unfold owed
    rw [Pi.add_apply, Finsupp.add_apply, owed_recv k d c l hl', tallyAt_apply]
    by_cases h : k = k'
    · subst h
      rw [if_neg (by simp [hk']), Nat.zero_add]
      refine if_congr ?_ rfl rfl
      rw [recv_eq_iff, peer_comm]; simp
    · rw [if_neg (c := recvCell k c = recvCell k' (peer (ax k') d) ∧ () = ()) (by rw [recv_eq_iff]; simp [h]), Nat.add_zero]
      exact if_congr (by simp [h]) rfl rfl

theorem order_nodup : order.Nodup := by decide
theorem order_all (k : Fin 14) : k ∈ order := by revert k; decide

/-- A barrier is owed a unit by each neighbour; -/
theorem owes_bar (d c : Dev nD) :
    O₀ d (barCell c) () = (if d = peer 2 c then 1 else 0) + (if d = peer 1 c then 1 else 0) + (if d = peer 0 c then 1 else 0) := by
  have h (a : Fin 3) : (tallyAt (barCell (peer a d)) () 1 : CellTallies nD τ sig Unit) (barCell c) () = if d = peer a c then 1 else 0 := by
    rw [tallyAt_apply]; exact if_congr (by rw [bar_eq_iff, peer_comm]; simp) rfl rfl
  unfold O₀
  rw [Pi.add_apply, Finsupp.add_apply, Pi.add_apply, Finsupp.add_apply, Pi.add_apply, Finsupp.add_apply, owed_bar, h, h, h, Nat.zero_add]
/-- a receive semaphore its message by the neighbour that sends it. -/
theorem owes_recv (k : Fin 14) (d c : Dev nD) : O₀ d (recvCell k c) () = if d = peer (ax k) c then N else 0 := by
  unfold O₀
  rw [Pi.add_apply, Finsupp.add_apply, Pi.add_apply, Finsupp.add_apply, Pi.add_apply, Finsupp.add_apply, owed_recv k d c order order_nodup,
    tallyAt_ne_cell bar_ne_recv.symm, tallyAt_ne_cell bar_ne_recv.symm, tallyAt_ne_cell bar_ne_recv.symm, Finsupp.zero_apply]
  exact if_congr (by simp [order_all k]) rfl rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib, Finset.sum_add_distrib,
    Finset.sum_ite_eq', Finset.sum_ite_eq', Finset.sum_ite_eq', if_pos (Finset.mem_univ _), if_pos (Finset.mem_univ _), if_pos (Finset.mem_univ _)]
theorem launch_recv (k : Fin 14) (c : Dev nD) :
    tallyOn (recvCell k c) (launchCredit (Pipeline.owing O₀) 0 (recvCell k c))
      = (tallyAt (recvCell k c) () (dmaAmt (recvS k)) : CellTallies nD τ sig Unit) := by
  rw [amt_recv]
  unfold tallyAt; refine congrArg _ (Finsupp.ext fun u => ?_); cases u
  rw [Pipeline.launchCredit_owing, Finsupp.single_eq_same, Finset.sum_congr rfl fun d _ => owes_recv k d c, Finset.sum_ite_eq', if_pos (Finset.mem_univ _)]

omit [FloatOps F] in
/-- The launch's credit holds the barrier's three units and the fourteen messages. -/
theorem creds (c : Dev nD) :
    (Pipeline.launchCred O₀ c : sProp 𝕄)
      ⊢ iprop(cred (tallyAt (barCell c) () 3) ∗ bigSep Finset.univ fun k : Fin 14 => cred (tallyAt (recvCell k c) () (dmaAmt (recvS k)))) := by
  unfold Pipeline.launchCred
  rw [over_sems, over_dma, launch_bar, bigSep_congr (s := Finset.univ) fun (k : Fin 14) _ => congrArg cred (launch_recv k c)]
  iintro ⟨HB, ⟨-, HR⟩, -⟩
  isplitl [HB] <;> iassumption

/-- Positions, tokens and credit are a device's kit. -/
theorem kit_intro (c : Dev nD) :
    iprop((bigSep Finset.univ fun sm : SemLoc sig => atPos ER (cell c sm) 0 ∅ 0) ∗ payToks c ∗ Pipeline.launchCred O₀ c) ⊢ (kit c : sProp 𝕄) := by
  unfold kit payToks sendKit idle armed
  rw [over_sems, over_dma]; simp only [bigSep_sep']
  iintro ⟨⟨PB, ⟨PS, PR⟩, PL, PO⟩, ⟨TB, ⟨TS, TM⟩, TL, TO⟩, Hc⟩
  ihave Hc' := (creds (F := F) c) $$ Hc
  icases Hc' with ⟨CB, CR⟩
  isplitl [PB CB]; · isplitl [PB] <;> iassumption
  isplitl [TB]; · iexact TB
  isplitl [PS TS TM]
  · isplitl [PS TS]
    · isplitl [PS] <;> iassumption
    iexact TM
  isplitl [PR CR]; · isplitl [PR] <;> iassumption
  isplitl [PL TL]; · isplitl [PL] <;> iassumption
  isplitl [PO] <;> iassumption

end Cert.CubeProof

end
-- ==== Proof.Launch.lean ====
/-
# The launch, and the run

Every semaphore of every device gets its invariant, the ghost state is dealt, the bodies run side by side, and the final
memory is read off what they end with.
-/
module

public import proofs.«01_k».proof.Proof.Deal
public import Idealize.ShloMosaic.Lib.Pipeline.CollectiveSegs

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The invariants -/

/-- The kernel's own semaphores: the transfers'. -/
def osem (q : DmaSem sig) : SemLoc sig := .dma q
theorem ownSemFacts : Pipeline.OwnSemFacts cfg0.spec osem := by decide +kernel

omit [FloatOps F] in
/-- The barrier's semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores at launch, all at zero. -/
theorem sems0_eq (c : Dev nD) :
    iprop(Pipeline.ownSems0 osem c ∗ unscopedSems0 c) ⊢ (bigSep Finset.univ fun sm : SemLoc sig => semVal (cell c sm) 0 : sProp 𝕄) := by
  rw [unscopedSems0_eq, over_sems]
  unfold Pipeline.ownSems0 osem
  iintro ⟨HS, HB⟩
  isplitl [HB] <;> iassumption

/-- What a device holds once its semaphores have their invariants. -/
def opened (c : Dev nD) : sProp 𝕄 :=
  iprop((bigSep Finset.univ fun sm : SemLoc sig => iprop(∃ κ : ℕ, cellInv ER (rd m) κ (cell c sm)))
    ∗ (bigSep Finset.univ fun sm : SemLoc sig => atPos ER (cell c sm) 0 ∅ 0)
    ∗ (bigSep Finset.univ fun sm : SemLoc sig => reached ER (cell c sm) 0) ∗ ownToks c)

theorem open_sems (c : Dev nD) :
    iprop(Pipeline.ownSems0 osem c ∗ unscopedSems0 c ∗ minted m c) ⊢ |={Set.univ}=> (opened m c : sProp 𝕄) := by
  have hI : iprop((bigSep Finset.univ fun sm : SemLoc sig => semVal (cell c sm) 0) ∗ bigSep Finset.univ fun sm : SemLoc sig => roundState ER (rd m) (cell c sm) 0)
      ⊢ (|={Set.univ}=> bigSep Finset.univ fun sm : SemLoc sig => iprop(∃ κ : ℕ, cellInv ER (rd m) κ (cell c sm)) : sProp 𝕄) := by
    rw [← bigSep_sep']
    exact (bigSep_mono fun sm _ => (Rounds.body_intro ER (rd m) (cell c sm)).trans inv_alloc).trans (bigSep_fupd _ _)
  unfold minted opened
  iintro ⟨Hos, Hus, Hst, Hrest⟩
  ihave Hv := (sems0_eq (F := F) c) $$ [Hos Hus]
  · isplitl [Hos] <;> iassumption
  imod hI $$ [Hv Hst] with Hinv
  · isplitl [Hv] <;> iassumption
  imodintro
  isplitl [Hinv] <;> iassumption

/-- What every device may use of the semaphores, under the names their invariants got. -/
def opens (K : Dev nD × SemLoc sig → ℕ) : sProp 𝕄 :=
  iprop((bigSep Finset.univ fun ck : Dev nD × SemLoc sig => cellInv ER (rd m) (K ck) (cell ck.1 ck.2))
    ∗ bigSep Finset.univ fun ck : Dev nD × SemLoc sig => reached ER (cell ck.1 ck.2) 0)
instance opens_persistent (K : Dev nD × SemLoc sig → ℕ) : BI.Persistent (opens m K) := by unfold opens; infer_instance

/-- A device's own part: its positions and the tokens of what it pays. -/
def own (c : Dev nD) : sProp 𝕄 := iprop((bigSep Finset.univ fun sm : SemLoc sig => atPos ER (cell c sm) 0 ∅ 0) ∗ payToks c)
/-- What a device is dealt. -/
def dealt (c : Dev nD) : sProp 𝕄 := iprop(∃ K, opens m K ∗ own c)

omit [FloatOps F] in
/-- What may be used again and again is there beside each of many. -/
theorem beside_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem dealt_intro (K : Dev nD × SemLoc sig → ℕ) (c : Dev nD) : iprop(opens m K ∗ own c) ⊢ dealt m c := by
  unfold dealt; iintro H; iexists K; iexact H

/-- The devices' parts, regrouped: the invariants to all, the tokens to those that pay with them. -/
theorem regroup : (bigSep Finset.univ fun c : Dev nD => opened m c) ⊢ bigSep Finset.univ (dealt m) := by
  unfold opened
  rw [bigSep_sep', bigSep_sep', bigSep_sep',
    ← bigSep_univ_prod (fun ck : Dev nD × SemLoc sig => iprop(∃ κ : ℕ, cellInv ER (rd m) κ (cell ck.1 ck.2))),
    ← bigSep_univ_prod (fun ck : Dev nD × SemLoc sig => (reached ER (cell ck.1 ck.2) 0 : sProp 𝕄)), toks_dealt]
  iintro ⟨HI, Hat, #HR, Htok⟩
  ihave HK := (BI.bigSep_exists_pi Finset.univ (fun (ck : Dev nD × SemLoc sig) (κ : ℕ) => (cellInv ER (rd m) κ (cell ck.1 ck.2) : sProp 𝕄))) $$ HI
  icases HK with ⟨%K, #HI⟩
  iapply (beside_all (R := opens m K) fun c _ => dealt_intro m K c)
  isplitr
  · unfold opens; isplitl; · iexact HI
    iexact HR
  · unfold own; rw [bigSep_sep']
    isplitl [Hat] <;> iassumption

theorem glob : (bigSep Finset.univ fun c => iprop(Pipeline.ownSems0 osem c ∗ unscopedSems0 c ∗ minted m c) : sProp 𝕄)
    ⊢ |={Set.univ}=> bigSep Finset.univ (dealt m) :=
  ((bigSep_mono fun c _ => open_sems m c).trans (bigSep_fupd _ _)).trans (BI.fupd_mono (regroup m))

/-! ## The one point of the grid -/

/-- What a body starts from, its scratch buffers apart; -/
def start (c : Dev nD) : sProp 𝕄 := iprop((∃ K, records m K ∗ kit c) ∗ aPts m c ∗ bPts m c ∗ anyBuf c main_v1)
def Φ₀ (c : Dev nD) : sProp 𝕄 := iprop(start m c ∗ scratch c)
/-- and what it ends with. -/
def Φ₁ (c : Dev nD) : sProp 𝕄 := iprop((aPts m c ∗ bPts m c ∗ resPts m c) ∗ scratch c ∗ zeros c)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := w.elim0

/-- The one point. -/
def p₀ : Fin cfg0.N := t0_0
theorem fin_p₀ (t : Fin cfg0.N) : t = p₀ := fin_N0 t

/-- Before the point a device owes what it owes at launch, -/
theorem owes_before (c : Dev nD) : (dats m 0 c).owesAt () p₀.castSucc ⊢ (owing c (O₀ c) : sProp 𝕄) := by
  show iprop(∃ W, _ ∗ owes (c : Thread nD τ) (O₀ c) W) ⊢ _
  unfold owing
  iintro ⟨%W, -, H⟩; iexists W; iexact H
/-- and after it nothing. -/
theorem owes_after (c : Dev nD) : (owing c (owed c []) : sProp 𝕄) ⊢ (dats m 0 c).owesAt () p₀.succ := by
  show _ ⊢ iprop(∃ W, _ ∗ owes (c : Thread nD τ) (owed c []) W)
  unfold owing
  iintro ⟨%W, H⟩; iexists W
  isplitr; · ipureintro; exact fun _ _ => Or.inl trivial
  iexact H

set_option maxRecDepth 8000 in
/-- What the point's body has to be run from, and to. -/
theorem body_obligation (c : Dev nD) : BodyObligation (dats (F := F) m 0 c) (defs₀ (F := F)) 𝒱₀ () Set.univ := fun t => by
  rw [fin_p₀ t]
  rw [show (Finset.univ : Finset (Fin cfg0.W)) = ∅ from rfl, bigSep_empty, bigSep_empty]
  show iprop(Φ₀ m c ∗ (dats m 0 c).owesAt () p₀.castSucc ∗ emp)
    ⊢ WP c (cc0_body aM (Memref.isWhole_whole _) bM (Memref.isWhole_whole _) vM (Memref.isWhole_whole _) xM (Memref.isWhole_whole _)
        wM (Memref.isWhole_whole _) oM (Memref.isWhole_whole _) rM (Memref.isWhole_whole _) gM (Memref.isWhole_whole _)
        cc0_scratch5 cc0_scratch6 cc0_scratch7 cc0_scratch8)
      (fun _ => iprop(Φ₁ m c ∗ (dats m 0 c).owesAt () p₀.succ ∗ emp))
  unfold Φ₀ start
  iintro ⟨⟨⟨⟨%K, HR, Hk⟩, Ha, Hb, Hv⟩, Hs⟩, HO, -⟩
  ihave HO' := (owes_before m c) $$ HO
  iapply (sound m K c) $$ HR Hk HO' Ha Hb Hv Hs
  iintro ⟨HO, Hm, Hs, Hz⟩
  ihave HO' := (owes_after m c) $$ HO
  unfold Φ₁
  isplitl [Hm Hs Hz]
  · isplitl [Hm]; · iexact Hm
    isplitl [Hs] <;> iassumption
  isplitl [HO']; · iexact HO'
  iempintro

/-! ## The launch's side conditions -/

/-- From the arrays, the levels, the credit and what it is dealt, a device starts. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  rw [Pipeline.unscopedRestP_none, unscopedRest0_eq]
  unfold dealt own opens start records
  iintro ⟨⟨Ha, Hb, Hv⟩, Hl, Hc, -, %K, ⟨HI, HR⟩, Hat, Htok⟩
  imodintro
  isplitl
  · isplitl [Hl Hc HI HR Hat Htok]
    · iexists K
      isplitl [Hl HI HR]
      · isplitl [HI]; · iexact HI
        isplitl [HR] <;> iassumption
      iapply (kit_intro c)
      isplitl [Hat]; · iexact Hat
      isplitl [Htok] <;> iassumption
    unfold aPts bPts anyBuf
    isplitl [Ha]; · iexact Ha
    isplitl [Hb]; · iexact Hb
    iexists _; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch anyBuf
  iintro ⟨Hs, -, Hr⟩
  isplitl [Hs] <;> iassumption

/-- What the run leaves a device: its semaphore outside the kernel, its operands and its result. -/
def left (c : Dev nD) : sProp 𝕄 := iprop(unscopedSems0 c ∗ aPts m c ∗ bPts m c ∗ resPts m c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold left Pipeline.ownSems0 osem Φ₁ zeros scratch anyBuf done
  rw [unscopedSems0_eq, over_dma]
  iintro ⟨Hm, Hs, ZB, ZS, ZR, ZL, ZO⟩
  isplitl [Hm ZB]; · isplitl [ZB] <;> iassumption
  isplitr [Hs]
  · isplitl [ZS ZR]; · isplitl [ZS] <;> iassumption
    isplitl [ZL] <;> iassumption
  iexact Hs

theorem waits (c : Dev nD) : (levAts L lv : sProp 𝕄) ⊢ Pipeline.cellsWaits cfgs (dats m) () 0 c :=
  Pipeline.cellsWaits_intro cfgs (dats m) () 0 c fun w s t => w.elim0

/-! ## The run -/

/-- What is read of a device's memory at the end. -/
def Final (c : Dev nD) (s : MemSt nD τ sig (Elt F)) : Prop :=
  s.mem ((c : Thread nD τ).loc main_arg0) = X m c ∧ s.mem ((c : Thread nD τ).loc main_arg1) = W m c
    ∧ s.mem ((c : Thread nD τ).loc main_v1) = resC m c

/-- A held buffer is what the memory has there. -/
theorem read_buf (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  iintro H
  ihave H' := h $$ H
  icases H' with ⟨%hf, H⟩
  isplitr; · ipureintro; exact hf () (Finset.mem_singleton_self _)
  iexact H

theorem read_left (c : Dev nD) (s' : Phys nD τ sig (Elt F)) :
    iprop(left m c ∗ emp ∗ SI s')
      ⊢ |={Set.univ}=> iprop(⌜Final m c s'.mem ∧ ∀ sm : SemLoc sig, sm.isScoped .tc = false → s'.mem.sem ((c.tc : Thread nD τ), sm) = 0⌝ ∗ SI s') := by
  unfold left aPts bPts resPts
  iintro ⟨⟨Hu, Ha, Hb, Hv⟩, -, HSI⟩
  ihave H := (read_buf (F := F) _ _ s') $$ [Ha HSI]
  · isplitl [Ha] <;> iassumption
  icases H with ⟨%ha, HSI⟩
  ihave H := (read_buf (F := F) _ _ s') $$ [Hb HSI]
  · isplitl [Hb] <;> iassumption
  icases H with ⟨%hb, HSI⟩
  ihave H := (read_buf (F := F) _ _ s') $$ [Hv HSI]
  · isplitl [Hv] <;> iassumption
  icases H with ⟨%hv, HSI⟩
  imod (Pipeline.unscopedSems0_read (X := unscopedSems0 c) (c := c) fupd_intro s') $$ [Hu HSI] with ⟨%hu, HSI⟩
  · isplitl [Hu] <;> iassumption
  imodintro
  isplitr; · ipureintro; exact ⟨⟨ha, hb, hv⟩, hu⟩
  iexact HSI

set_option maxRecDepth 8000 in
/-- On the eight devices, for any float values, from any memory with zero counters: every weakly fair execution terminates, and
    every final state has each device's operands unchanged, its result at the computed contents, and every counter at zero. -/
theorem run_main : θ_run defs (onTc (τ := τ) (main (F := F))) ⟨m, fun _ => 0, ρ⟩
    (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := minted m) (G' := dealt m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := fun c s => Final m c s ∧ ∀ sm : SemLoc sig, sm.isScoped .tc = false → s.sem ((c.tc : Thread nD τ), sm) = 0)
    (hY := read_left m)
    (hQ := fun _ h hs => ⟨fun c => (h c).2.2.1, sem_eq_zero hs fun c => (h c).2.2.2⟩)

end Cert.CubeProof

end
-- ==== Proof.Value.lean ====
/-
# The value

At the ideal values the kernel's result, read at a row and a column, is the activation of the row of `x` times the column of
`w`; so is the reference's.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.CubeProof

open Cert.KernelIdeal Cert.KernelIdeal.Gen

open Idealize.ShloMosaic
open Idealize.ShloMosaic.TcCoe
open Idealize.ShloMosaic.ValueIdx
open Idealize.SL Idealize.SL.Sem

/-- The activation of a number: half of it times one plus the hyperbolic tangent. -/
def gelu (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * (y * y * y))))

/-- The kernel multiplies the cube's constant in first. -/
theorem gelu_eq (y : EReal) :
    Ideal.ofBits .f32 0x3F000000#32 * y
      * (Ideal.ofBits .f32 0x3F800000#32
        + Ideal.tanh (Ideal.ofBits .f32 0x3F4C422A#32 * (y + Ideal.ofBits .f32 0x3D372713#32 * y * y * y))) = gelu y := by
  unfold gelu; rw [mul_assoc (Ideal.ofBits .f32 0x3D372713#32) y y, mul_assoc (Ideal.ofBits .f32 0x3D372713#32) (y * y) y]

/-! ## The kernel's side -/

variable (m : (ℓ : Loc nD τ sig) → Buf (Elt Ideal) ℓ)

/-- A unit axis in front does not move an element. -/
theorem drop_unit (h : S128x128.numel = S1x128x128.numel) (a b : Fin 128) :
    (Shape.reshapeEquiv h).symm (ix3 (⟨0, Nat.one_pos⟩ : Fin 1) a b) = (ix2 a b : S128x128.Idx) := by
  rw [Equiv.symm_apply_eq]; exact (reshapeEquiv_ix2_1ab h a b).symm

/-- The block's product is a plain matrix product. -/
theorem dims_plain : dot_S128x1024_S1024x128_S128x128_1_0_0_1_n_n = DotDims.plain 128 1024 128 := rfl

/-- A block's product at a row and a column. -/
theorem prod_apply (l : FVec Ideal S128x1024 .bf16) (r : FVec Ideal S1024x128 .bf16) (a b : Fin 128) :
    matmul (F := Ideal) dot_S128x1024_S1024x128_S128x128_1_0_0_1_n_n none l r (constant S128x128 .f32 0x00000000#32) (ix2 a b)
      = ∑ k : Fin 1024, (l (ix2 a k) * r (ix2 k b) : EReal) := by
  rw [dims_plain]
  refine (Ideal.matmul_plain_apply none l r _ a b).trans ?_
  show Ideal.ofBits .f32 0x00000000#32 + _ = _
  rw [Ideal.ofBits_zero_f32, zero_add]

/-- At the ideal values the rounded block of `x` is the block. -/
theorem own_apply (r : Dev nD) (i : S128x1024.Idx) : ownC m r i = X m r i := by
  have e : ownC m r = shapeCast S128x1024 (X m r) shapeCasts_S128x1024_S128x1024 := rfl
  rw [e, shapeCast_self]

/-- At the ideal values the rounded block of `w` is the block. -/
theorem w16_apply (c : Dev nD) (i : S1024x128.Idx) : w16 m c i = W m c i := rfl

/-- A block of the result at a row and a column. -/
theorem blk_apply (c r : Dev nD) (a b : Fin 128) :
    blkC m c r (ix3 (⟨0, Nat.one_pos⟩ : Fin 1) a b) = gelu (∑ k : Fin 1024, (X m r (ix2 a k) * W m c (ix2 k b) : EReal)) := by
  have e : blkC m c r (ix3 (⟨0, Nat.one_pos⟩ : Fin 1) a b)
      = (fun y : EReal => Ideal.ofBits .f32 0x3F000000#32 * y
          * (Ideal.ofBits .f32 0x3F800000#32
            + Ideal.tanh (Ideal.ofBits .f32 0x3F4C422A#32 * (y + Ideal.ofBits .f32 0x3D372713#32 * y * y * y))))
        (matmul (F := Ideal) dot_S128x1024_S1024x128_S128x128_1_0_0_1_n_n none (ownC m r) (w16 m c) (constant S128x128 .f32 0x00000000#32)
          ((Shape.reshapeEquiv (show S128x128.numel = S1x128x128.numel by decide)).symm (ix3 (⟨0, Nat.one_pos⟩ : Fin 1) a b))) := rfl
  rw [e, drop_unit, prod_apply]
  refine (gelu_eq _).trans (congrArg gelu (Finset.sum_congr rfl fun k _ => ?_))
  rw [own_apply, w16_apply]

/-! ## The reference's side -/

/-- The reference's result as its operations compose it. -/
def refC (x w : FVec Ideal Cert.ReferenceIdeal.S1024x1024 .f32) : FVec Ideal Cert.ReferenceIdeal.S1024x1024 .bf16 :=
  let y := Host.dotGeneral Cert.ReferenceIdeal.dot_S1024x1024_S1024x1024_S1024x1024_1_0_0_1_n_n none x w
  let k (b : BitVec 32) : FVec Ideal Cert.ReferenceIdeal.S1024x1024 .f32 :=
    broadcastInDim Cert.ReferenceIdeal.S1024x1024 ![] Cert.ReferenceIdeal.Gen.facts.bcast_S_S1024x1024
      (constant Cert.ReferenceIdeal.S_ .f32 b)
  truncf .bf16 (mulf (mulf (k 0x3F000000#32) y) (addf (k 0x3F800000#32) (Host.tanh (mulf (k 0x3F4C422A#32)
    (addf y (mulf (k 0x3D372713#32) (mulf (mulf y y) y))))))) Cert.ReferenceIdeal.Gen.facts.bitsLt_bf16_f32

/-- So is the reference's. -/
theorem ref_dims_plain :
    Cert.ReferenceIdeal.dot_S1024x1024_S1024x1024_S1024x1024_1_0_0_1_n_n = DotDims.plain 1024 1024 1024 := rfl

/-- The reference's result at a row and a column. -/
theorem ref_apply (x w : FVec Ideal Cert.ReferenceIdeal.S1024x1024 .f32) (a b : Fin 1024) :
    refC x w (ix2 a b) = gelu (∑ k : Fin 1024, (x (ix2 a k) * w (ix2 k b) : EReal)) := by
  have e : refC x w (ix2 a b)
      = gelu (Host.dotGeneral Cert.ReferenceIdeal.dot_S1024x1024_S1024x1024_S1024x1024_1_0_0_1_n_n none x w (ix2 a b)) := rfl
  rw [e, ref_dims_plain]
  exact congrArg gelu (StackMember.dotGeneral_plain_apply none x w a b)

/-! ## The two agree -/

/-- When the devices hold the row blocks of `x` and the column blocks of `w`, a device's result is the column block of the
reference's. -/
theorem res_eq (x w : FVec Ideal Cert.ReferenceIdeal.S1024x1024 .f32)
    (hx : ∀ c : Dev nD, X m c = Layout.block ⟨2, ![128, 1024]⟩ ⟨2, ![1024, 1024]⟩ 0 8 c x)
    (hw : ∀ c : Dev nD, W m c = Layout.block ⟨2, ![1024, 128]⟩ ⟨2, ![1024, 1024]⟩ 1 8 c w) (c : Dev nD) :
    resC m c = Layout.block ⟨2, ![1024, 128]⟩ ⟨2, ![1024, 1024]⟩ 1 8 c (refC x w) := by
  funext i
  obtain ⟨a, b, rfl⟩ := exists_ix2 i
  have hc : c.val < 8 := c.isLt
  have hB := b.isLt
  refine (blk_apply m c _ _ b).trans ?_
  rw [Layout.block_apply]
  refine Eq.trans ?_ (congrArg (refC x w) (show ix2 a (⟨c.val * 128 + b.val, by omega⟩ : Fin 1024) = _ from ?_))
  · rw [ref_apply]
    refine congrArg gelu (Finset.sum_congr rfl fun k _ => ?_)
    rw [hx, hw, Layout.block_apply, Layout.block_apply]
    refine congrArg₂ (fun p q : EReal => p * q) (congrArg x ?_) (congrArg w ?_)
    · funext d; refine Fin.ext ?_
      match d with
      | ⟨0, _⟩ => show a.val / 128 * 128 + a.val % 128 = a.val; omega
      | ⟨1, _⟩ => rfl
    · funext d; refine Fin.ext ?_
      match d with
      | ⟨0, _⟩ => rfl
      | ⟨1, _⟩ => rfl
  · funext d; refine Fin.ext ?_
    match d with
    | ⟨0, _⟩ => rfl
    | ⟨1, _⟩ => rfl

end Cert.CubeProof

end
-- ==== Proof.lean ====
/-
# The claims

The run of the kernel on the eight devices gives its two frames and, with the value at the ideal instance, the algebraic
claim; the reference's run gives its own frame.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel over the machine's floats terminates, leaves its arguments alone and every counter at zero. -/
theorem frame_kernel : Cert.quiescent_Kernel := fun m ρ _ =>
  (θ_run Cert.KernelIdeal.defs _ _).mono (fun _ h => ⟨fun c => ⟨(h.1 c).1, (h.1 c).2.1⟩, h.2⟩)
    (Cert.CubeProof.run_main (F := Bits) m ρ)

/-- So does the kernel over the extended reals. -/
theorem frame_ideal : Cert.quiescent_KernelIdeal := fun m ρ _ =>
  (θ_run Cert.KernelIdeal.defs _ _).mono (fun _ h => ⟨fun c => ⟨(h.1 c).1, (h.1 c).2.1⟩, h.2⟩)
    (Cert.CubeProof.run_main (F := Ideal) m ρ)

/-- So does the reference, which has no semaphores. -/
theorem frame_reference : Cert.quiescent_ReferenceIdeal := fun m ρ _ =>
  (θ_run Cert.ReferenceIdeal.defs _ _).mono
    (fun _ h => ⟨fun c => ⟨(h c).2.1, (h c).2.2⟩, funext fun ⟨_, s⟩ => nomatch s⟩)
    (Cert.ReferenceIdeal.Value.run (F := Ideal) m ρ)

/-- Each device's result is its column block of the reference's. -/
theorem value : Cert.algebraic_KernelIdeal_ReferenceIdeal := fun m ρ m' ρ' _ hargs =>
  ⟨Cert.CubeProof.refC (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans
        (Cert.CubeProof.res_eq m _ _ (fun c => (hargs c).1) (fun c => (hargs c).2) c), (h.1 c).1, (h.1 c).2.1⟩)
      (Cert.CubeProof.run_main (F := Ideal) m ρ),
    (θ_run Cert.ReferenceIdeal.defs _ _).mono (fun _ h => h 0) (Cert.ReferenceIdeal.Value.run (F := Ideal) m' ρ')⟩

/-- The five claims: three frames, the ideal program's faithfulness, and the value. -/
theorem claim : Cert.Claim :=
  ⟨Cert.Kernel.Gen.facts, Cert.KernelIdeal.Gen.facts, Cert.ReferenceIdeal.Gen.facts,
    frame_kernel, frame_ideal, frame_reference, trivial, value⟩

end Cert.Proof

end
